-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales [hPre_scales : Cert.Pre_scales.Facts] (m : (ℓ : Loc Cert.KernelIdeal.nD Cert.KernelIdeal.τ Cert.KernelIdeal.sig) → Buf (Elt Ideal) ℓ) : Prop :=
  ∀ c : Dev Cert.KernelIdeal.nD,
    (Cert.Pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales [hPre_scales : Cert.Pre_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales [hKernelIdeal : Cert.KernelIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales [hReferenceIdeal : Cert.ReferenceIdeal.Facts] [hPre_scales : Cert.Pre_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales [hKernelIdeal : Cert.KernelIdeal.Facts] [hReferenceIdeal : Cert.ReferenceIdeal.Facts] [hPre_scales : Cert.Pre_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales : Cert.Pre_scales.Facts),
    quiescent_Kernel (hKernel := hKernel)
    ∧ quiescent_KernelIdeal (hKernelIdeal := hKernelIdeal)
    ∧ quiescent_KernelIdeal_pre_scales (hKernelIdeal := hKernelIdeal) (hPre_scales := hPre_scales)
    ∧ quiescent_ReferenceIdeal (hReferenceIdeal := hReferenceIdeal)
    ∧ quiescent_ReferenceIdeal_pre_scales (hReferenceIdeal := hReferenceIdeal) (hPre_scales := hPre_scales)
    ∧ preserves_Kernel_KernelIdeal
    ∧ algebraic_KernelIdeal_ReferenceIdeal_pre_scales (hKernelIdeal := hKernelIdeal) (hReferenceIdeal := hReferenceIdeal) (hPre_scales := hPre_scales)
-- ==== Pre_scales.lean ====
abbrev S1x2048x32x256 : Shape := ⟨4, ![1, 2048, 32, 256]⟩
abbrev S1x2048x32 : Shape := ⟨3, ![1, 2048, 32]⟩
abbrev S1x2048x24x256 : Shape := ⟨4, ![1, 2048, 24, 256]⟩
abbrev S1x2048x24 : Shape := ⟨3, ![1, 2048, 24]⟩
abbrev S256 : Shape := ⟨1, ![256]⟩
abbrev S1x2048 : Shape := ⟨2, ![1, 2048]⟩
abbrev S_ : Shape := ⟨0, ![]⟩

class Facts : Prop where
  bcast_S_S1x2048x32 : S_.BroadcastsInDim S1x2048x32 (![] : Fin 0 → Fin S1x2048x32.rank)
  bcast_S_S1x2048x24 : S_.BroadcastsInDim S1x2048x24 (![] : Fin 0 → Fin S1x2048x24.rank)

variable [Facts]

def fn {F : FTy → Type} [FloatOps F] (main_arg0 : FVec F S1x2048x32x256 .fp8e5m2) (main_arg1 : FVec F S1x2048x32 .f32) (main_arg2 : FVec F S1x2048x24x256 .fp8e4m3) (main_arg3 : FVec F S1x2048x24 .f32) (main_arg4 : FVec F S256 .f32) (main_arg5 : FVec F S256 .f32) (main_arg6 : IVec S1x2048 32) : IVec S1x2048x32 1 × IVec S1x2048x24 1 :=
  let main_cst : FVec F S_ .f32 := constant S_ .f32 0x00000000#32
  let main_v0 : FVec F S1x2048x32 .f32 := broadcastInDim S1x2048x32 ![] bcast_S_S1x2048x32 main_cst
  let main_v1 : IVec S1x2048x32 1 := cmpf .oge main_arg1 main_v0
  let main_cst_0 : FVec F S_ .f32 := constant S_ .f32 0x7F800000#32
  let main_v2 : FVec F S1x2048x32 .f32 := broadcastInDim S1x2048x32 ![] bcast_S_S1x2048x32 main_cst_0
  let main_v3 : IVec S1x2048x32 1 := cmpf .olt main_arg1 main_v2
  let main_v4 : IVec S1x2048x32 1 := andi main_v1 main_v3
  let main_cst_1 : FVec F S_ .f32 := constant S_ .f32 0x00000000#32
  let main_v5 : FVec F S1x2048x24 .f32 := broadcastInDim S1x2048x24 ![] bcast_S_S1x2048x24 main_cst_1
  let main_v6 : IVec S1x2048x24 1 := cmpf .oge main_arg3 main_v5
  (main_v4, main_v6)
-- ==== Kernel.lean ====
abbrev S1x2048x32x256 : Shape := ⟨4, ![1, 2048, 32, 256]⟩
abbrev S1x2048x32 : Shape := ⟨3, ![1, 2048, 32]⟩
abbrev S1x2048x24x256 : Shape := ⟨4, ![1, 2048, 24, 256]⟩
abbrev S1x2048x24 : Shape := ⟨3, ![1, 2048, 24]⟩
abbrev S256 : Shape := ⟨1, ![256]⟩
abbrev S1x2048 : Shape := ⟨2, ![1, 2048]⟩
abbrev S128 : Shape := ⟨1, ![128]⟩
abbrev S_ : Shape := ⟨0, ![]⟩
abbrev S1x128 : Shape := ⟨2, ![1, 128]⟩
abbrev S2x128 : Shape := ⟨2, ![2, 128]⟩
abbrev S1x128x32x256 : Shape := ⟨4, ![1, 128, 32, 256]⟩
abbrev S1x128x32 : Shape := ⟨3, ![1, 128, 32]⟩
abbrev S1x128x24x256 : Shape := ⟨4, ![1, 128, 24, 256]⟩
abbrev S1x128x24 : Shape := ⟨3, ![1, 128, 24]⟩
abbrev S128x128 : Shape := ⟨2, ![128, 128]⟩
abbrev S24x128 : Shape := ⟨2, ![24, 128]⟩
abbrev S8x128 : Shape := ⟨2, ![8, 128]⟩
abbrev S4x8x128 : Shape := ⟨3, ![4, 8, 128]⟩
abbrev S128x24 : Shape := ⟨2, ![128, 24]⟩
abbrev S128x32 : Shape := ⟨2, ![128, 32]⟩
abbrev S32x128 : Shape := ⟨2, ![32, 128]⟩
abbrev S1x1x24x256 : Shape := ⟨4, ![1, 1, 24, 256]⟩
abbrev S24x256 : Shape := ⟨2, ![24, 256]⟩
abbrev S24 : Shape := ⟨1, ![24]⟩
abbrev S24x1 : Shape := ⟨2, ![24, 1]⟩
abbrev S1x1x32x256 : Shape := ⟨4, ![1, 1, 32, 256]⟩
abbrev S32x256 : Shape := ⟨2, ![32, 256]⟩
abbrev S8x1 : Shape := ⟨2, ![8, 1]⟩
abbrev S8 : Shape := ⟨1, ![8]⟩
abbrev S8x256 : Shape := ⟨2, ![8, 256]⟩
abbrev S1x8x128 : Shape := ⟨3, ![1, 8, 128]⟩

abbrev nBuf : Space → Nat
  | .hbm => 24
  | .vmem => 24
  | .smem => 0
  | _ => 0

abbrev bufTy : (tb : Table) → Fin (tcTables nBuf tb) → BufTy
  | .hbm, ⟨0, _⟩ => ⟨S1x2048x32x256, .fp8e5m2⟩
  | .hbm, ⟨1, _⟩ => ⟨S1x2048x32, .f32⟩
  | .hbm, ⟨2, _⟩ => ⟨S1x2048x24x256, .fp8e4m3⟩
  | .hbm, ⟨3, _⟩ => ⟨S1x2048x24, .f32⟩
  | .hbm, ⟨4, _⟩ => ⟨S256, .f32⟩
  | .hbm, ⟨5, _⟩ => ⟨S256, .f32⟩
  | .hbm, ⟨6, _⟩ => ⟨S1x2048, .i32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S2x128, .f32⟩
  | .hbm, ⟨20, _⟩ => ⟨S2x128, .f32⟩
  | .hbm, ⟨21, _⟩ => ⟨S1x2048x32x256, .bf16⟩
  | .hbm, ⟨22, _⟩ => ⟨S2x128, .f32⟩
  | .hbm, ⟨23, _⟩ => ⟨S2x128, .f32⟩
  | .local _ .vmem, ⟨0, _⟩ => ⟨S1x128x32x256, .fp8e5m2⟩
  | .local _ .vmem, ⟨1, _⟩ => ⟨S1x128x32x256, .fp8e5m2⟩
  | .local _ .vmem, ⟨2, _⟩ => ⟨S1x128x32, .f32⟩
  | .local _ .vmem, ⟨3, _⟩ => ⟨S1x128x32, .f32⟩
  | .local _ .vmem, ⟨4, _⟩ => ⟨S1x128x24x256, .fp8e4m3⟩
  | .local _ .vmem, ⟨5, _⟩ => ⟨S1x128x24x256, .fp8e4m3⟩
  | .local _ .vmem, ⟨6, _⟩ => ⟨S1x128x24, .f32⟩
  | .local _ .vmem, ⟨7, _⟩ => ⟨S1x128x24, .f32⟩
  | .local _ .vmem, ⟨8, _⟩ => ⟨S2x128, .f32⟩
  | .local _ .vmem, ⟨9, _⟩ => ⟨S2x128, .f32⟩
  | .local _ .vmem, ⟨10, _⟩ => ⟨S1x128, .i32⟩
  | .local _ .vmem, ⟨11, _⟩ => ⟨S1x128, .i32⟩
  | .local _ .vmem, ⟨12, _⟩ => ⟨S1x128, .f32⟩
  | .local _ .vmem, ⟨13, _⟩ => ⟨S1x128x32x256, .bf16⟩
  | .local _ .vmem, ⟨14, _⟩ => ⟨S1x128x32x256, .bf16⟩
  | .local _ .vmem, ⟨15, _⟩ => ⟨S2x128, .f32⟩
  | .local _ .vmem, ⟨16, _⟩ => ⟨S2x128, .f32⟩
  | .local _ .vmem, ⟨17, _⟩ => ⟨S128x128, .f32⟩
  | .local _ .vmem, ⟨18, _⟩ => ⟨S128x128, .f32⟩
  | .local _ .vmem, ⟨19, _⟩ => ⟨S24x128, .f32⟩
  | .local _ .vmem, ⟨20, _⟩ => ⟨S24x128, .f32⟩
  | .local _ .vmem, ⟨21, _⟩ => ⟨S24x128, .f32⟩
  | .local _ .vmem, ⟨22, _⟩ => ⟨S8x128, .f32⟩
  | .local _ .vmem, ⟨23, _⟩ => ⟨S4x8x128, .f32⟩
  | _, _ => ⟨S1x2048x32x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_34 : BitVec 32 := 0#32
  let c8_i32 : BitVec 32 := 8#32
  let v88 : BitVec 32 := Scalar.addi c0_i32_34 c8_i32
  let c1_i32 : BitVec 32 := 1#32
  ⟨c0_i32_34, v88, c1_i32⟩
def k0_off1 (k0_t1 : Fin k0_t1_loop.trips) (c0_i32_59 : BitVec 32) : Fin 4 → Nat :=
  let c0_60 : Index := 0#32
  let c0_i32_34 : BitVec 32 := 0#32
  let c1_i32 : BitVec 32 := 1#32
  let arg19 : BitVec 32 := Scf.iv c0_i32_34 c1_i32 k0_t1
  let c16_i32 : BitVec 32 := 16#32
  let v129 : BitVec 32 := Scalar.muli arg19 c16_i32
  let v130 : BitVec 32 := Scalar.addi v129 c0_i32_59
  let v131 : Index := Scalar.indexCast v130
  let c0_61 : Index := 0#32
  let c0_62 : Index := 0#32
  ![0, v131.toNat, 0, 0]
@[reducible] def k0_t2_loop : Scf.Loop 32 :=
  let c0_i32_54 : BitVec 32 := 0#32
  let c8_i32_55 : BitVec 32 := 8#32
  let v125 : BitVec 32 := Scalar.addi c0_i32_54 c8_i32_55
  let c1_i32_56 : BitVec 32 := 1#32
  ⟨c0_i32_54, v125, c1_i32_56⟩
def k0_off2 (k0_t2 : Fin k0_t2_loop.trips) (c0_i32_72 : BitVec 32) : Fin 2 → Nat :=
  let c0_i32_54 : BitVec 32 := 0#32
  let c1_i32_56 : BitVec 32 := 1#32
  let arg19 : BitVec 32 := Scf.iv c0_i32_54 c1_i32_56 k0_t2
  let c16_i32 : BitVec 32 := 16#32
  let v129 : BitVec 32 := Scalar.muli arg19 c16_i32
  let v144 : BitVec 32 := Scalar.addi v129 c0_i32_72
  let v145 : Index := Scalar.indexCast v144
  let c0_73 : Index := 0#32
  ![v145.toNat, 0]
def k0_off3 (k0_t2 : Fin k0_t2_loop.trips) (c0_i32_72 : BitVec 32) : Fin 4 → Nat :=
  let c0_75 : Index := 0#32
  let c0_i32_54 : BitVec 32 := 0#32
  let c1_i32_56 : BitVec 32 := 1#32
  let arg19 : BitVec 32 := Scf.iv c0_i32_54 c1_i32_56 k0_t2
  let c16_i32 : BitVec 32 := 16#32
  let v129 : BitVec 32 := Scalar.muli arg19 c16_i32
  let v144 : BitVec 32 := Scalar.addi v129 c0_i32_72
  let v149 : Index := Scalar.indexCast v144
  let c0_76 : Index := 0#32
  let c0_77 : Index := 0#32
  ![0, v149.toNat, 0, 0]
def k0_off4 (k0_t2 : Fin k0_t2_loop.trips) (c0_i32_72 : BitVec 32) : Fin 4 → Nat :=
  let c0_78 : Index := 0#32
  let c0_i32_54 : BitVec 32 := 0#32
  let c1_i32_56 : BitVec 32 := 1#32
  let arg19 : BitVec 32 := Scf.iv c0_i32_54 c1_i32_56 k0_t2
  let c16_i32 : BitVec 32 := 16#32
  let v129 : BitVec 32 := Scalar.muli arg19 c16_i32
  let v144 : BitVec 32 := Scalar.addi v129 c0_i32_72
  let v153 : Index := Scalar.indexCast v144
  let c0_79 : Index := 0#32
  let c0_80 : Index := 0#32
  ![0, v153.toNat, 0, 0]
def k0_cond2 (i : grid0.Coords) : BitVec 1 :=
  let arg0 : BitVec 32 := BitVec.ofNat 32 (i 0).val
  let c15_i32 : BitVec 32 := 15#32
  let v126 : BitVec 1 := Scalar.cmpi .eq arg0 c15_i32
  let v127 : BitVec 32 := Scalar.extui v126
  let c0_i32_58 : BitVec 32 := 0#32
  let v128 : BitVec 1 := Scalar.cmpi .ne v127 c0_i32_58
  v128

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x32x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x24x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x2048x32x256 : Shape := ⟨4, ![1, 2048, 32, 256]⟩
abbrev S1x2048x32 : Shape := ⟨3, ![1, 2048, 32]⟩
abbrev S1x2048x24x256 : Shape := ⟨4, ![1, 2048, 24, 256]⟩
abbrev S1x2048x24 : Shape := ⟨3, ![1, 2048, 24]⟩
abbrev S256 : Shape := ⟨1, ![256]⟩
abbrev S1x2048 : Shape := ⟨2, ![1, 2048]⟩
abbrev S2x128 : Shape := ⟨2, ![2, 128]⟩
abbrev S128 : Shape := ⟨1, ![128]⟩
abbrev S_ : Shape := ⟨0, ![]⟩
abbrev S1x128 : Shape := ⟨2, ![1, 128]⟩
abbrev S1x2048x1 : Shape := ⟨3, ![1, 2048, 1]⟩
abbrev S1x1x128 : Shape := ⟨3, ![1, 1, 128]⟩
abbrev S1x2048x128 : Shape := ⟨3, ![1, 2048, 128]⟩
abbrev S1x2048x1x128 : Shape := ⟨4, ![1, 2048, 1, 128]⟩
abbrev S1x2048x24x1 : Shape := ⟨4, ![1, 2048, 24, 1]⟩
abbrev S1x2048x24x128 : Shape := ⟨4, ![1, 2048, 24, 128]⟩
abbrev S1x2048x16x128 : Shape := ⟨4, ![1, 2048, 16, 128]⟩
abbrev S1x2048x8x128 : Shape := ⟨4, ![1, 2048, 8, 128]⟩
abbrev S24x128 : Shape := ⟨2, ![24, 128]⟩
abbrev S1x1x24x128 : Shape := ⟨4, ![1, 1, 24, 128]⟩
abbrev S1x2048x8x256 : Shape := ⟨4, ![1, 2048, 8, 256]⟩
abbrev S1x2048x8 : Shape := ⟨3, ![1, 2048, 8]⟩
abbrev S1x2048x8x1 : Shape := ⟨4, ![1, 2048, 8, 1]⟩

abbrev nBuf : Space → Nat
  | .hbm => 24
  | .vmem => 11
  | .smem => 0
  | _ => 0

abbrev bufTy : (tb : Table) → Fin (tcTables nBuf tb) → BufTy
  | .hbm, ⟨0, _⟩ => ⟨S1x2048x32x256, .fp8e5m2⟩
  | .hbm, ⟨1, _⟩ => ⟨S1x2048x32, .f32⟩
  | .hbm, ⟨2, _⟩ => ⟨S1x2048x24x256, .fp8e4m3⟩
  | .hbm, ⟨3, _⟩ => ⟨S1x2048x24, .f32⟩
  | .hbm, ⟨4, _⟩ => ⟨S256, .f32⟩
  | .hbm, ⟨5, _⟩ => ⟨S256, .f32⟩
  | .hbm, ⟨6, _⟩ => ⟨S1x2048, .i32⟩
  | .hbm, ⟨7, _⟩ => ⟨S2x128, .f32⟩
  | .hbm, ⟨8, _⟩ => ⟨S2x128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S1x2048x32x256, .bf16⟩
  | .hbm, ⟨22, _⟩ => ⟨S2x128, .f32⟩
  | .hbm, ⟨23, _⟩ => ⟨S2x128, .f32⟩
  | .local _ .vmem, ⟨0, _⟩ => ⟨S1x2048x32x256, .fp8e5m2⟩
  | .local _ .vmem, ⟨1, _⟩ => ⟨S1x2048x32, .f32⟩
  | .local _ .vmem, ⟨2, _⟩ => ⟨S1x2048x24x256, .fp8e4m3⟩
  | .local _ .vmem, ⟨3, _⟩ => ⟨S1x2048x24, .f32⟩
  | .local _ .vmem, ⟨4, _⟩ => ⟨S2x128, .f32⟩
  | .local _ .vmem, ⟨5, _⟩ => ⟨S2x128, .f32⟩
  | .local _ .vmem, ⟨6, _⟩ => ⟨S1x2048, .i32⟩
  | .local _ .vmem, ⟨7, _⟩ => ⟨S1x128, .f32⟩
  | .local _ .vmem, ⟨8, _⟩ => ⟨S1x2048x32x256, .bf16⟩
  | .local _ .vmem, ⟨9, _⟩ => ⟨S2x128, .f32⟩
  | .local _ .vmem, ⟨10, _⟩ => ⟨S2x128, .f32⟩
  | _, _ => ⟨S1x2048x32x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x2048x32x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x24x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048x32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.Free.lean ====
/- The stores of the main loop of Kernel do not depend on what the output block held before. -/
module

public import proofs.«01_k».proof.Proof.Gen.Kernel.Loops

@[expose] public section

set_option maxRecDepth 16384

noncomputable section

namespace Cert.Kernel.Gen

open Cert.Kernel
open Idealize.ShloMosaic Idealize.ShloMosaic.TcCoe Idealize.SL.Sem

variable {F : FTy → Type} [FloatOps F]

variable (𝒱 : Variants) (c : Dev nD) (bd : Option 𝒱.V) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole)
variable (v117 v119 v121 v123 : Vec F S1x128 .f32) (X_arg1 : BufTy.Contents (Elt F) arg1.view.ty) (X_arg3 : BufTy.Contents (Elt F) arg3.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty)

/-- One trip's stores do not depend on the contents of the output block. -/
theorem tripL_free (k : Fin k0_t2_loop.trips) (f f' : BufTy.Contents (Elt F) arg9.view.ty) (g : BufTy.Contents (Elt F) arg18.view.ty) :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 k f g
      = tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 k f' g := by
  delta tripL_k0_t2 trip_k0_t2
  rfl

/-- The stores of the trips before any trip do not depend on the contents of the output block at the loop's entry. -/
theorem pb_free (f f' : BufTy.Contents (Elt F) arg9.view.ty) (g : BufTy.Contents (Elt F) arg18.view.ty) :
    ∀ n : ℕ, n ≤ k0_t2_loop.trips →
      pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f g n
        = pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f' g n
  | 0, _ => rfl
  | n + 1, h => by
    have ih := pb_free f f' g n (by omega)
    have e := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f g ⟨n, h⟩
    have e' := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f' g ⟨n, h⟩
    refine e.trans (Eq.trans ?_ e'.symm)
    rw [ih]
    exact congrArg (fun t : List (View.Piece (Elt F) S1x128x32x256 .bf16) × List (View.Piece (Elt F) S4x8x128 .f32) => (t.1 ++ _, t.2 ++ _))
      (tripL_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 ⟨n, h⟩ _ _ _)

/-- The stores of the whole loop, with the contents of the output block at the loop's entry replaced by fixed ones. -/
theorem pb_junk (f : BufTy.Contents (Elt F) arg9.view.ty) (g : BufTy.Contents (Elt F) arg18.view.ty) :
    pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f g (Scf.trips k0_t2_loop.lb k0_t2_loop.ub k0_t2_loop.st)
      = pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 arg9.view.junk g (Scf.trips k0_t2_loop.lb k0_t2_loop.ub k0_t2_loop.st) :=
  pb_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f arg9.view.junk g _ (le_refl _)

end Cert.Kernel.Gen

end
-- ==== Proof.KernelFrame.Runs.lean ====
/- What the runs of the body of Kernel share: the blocks, the memrefs, the conditions in closed form. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 8, through which its contents are stated (`View.read_writes_of_cover`: the
    choice does not matter). -/
abbrev VO0_8 : View sig .tc .vmem S1x128x32x256 .bf16 := (Memref.whole cc0_stg8_0 : Memref sig .tc .vmem S1x128x32x256 .bf16).view
/-- One staging buffer of output window 9, through which its contents are stated (`View.read_writes_of_cover`: the
    choice does not matter). -/
abbrev VO0_9 : View sig .tc .vmem S2x128 .f32 := (Memref.whole cc0_stg9_0 : Memref sig .tc .vmem S2x128 .f32).view
/-- One staging buffer of output window 10, through which its contents are stated (`View.read_writes_of_cover`: the
    choice does not matter). -/
abbrev VO0_10 : View sig .tc .vmem S2x128 .f32 := (Memref.whole cc0_stg10_0 : Memref sig .tc .vmem S2x128 .f32).view
/-- Each window's current staging memref at point `t`, spelled as the pipeline passes it (`bodyAt0`), and its wholeness. -/
abbrev ms0_0 (t : Fin cfg0.N) : Memref sig .tc .vmem S1x128x32x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x24x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x24 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x32x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
abbrev scM0_2 : Memref sig .tc .vmem S24x128 .f32 := Memref.whole cc0_scratch2
abbrev scM0_3 : Memref sig .tc .vmem S24x128 .f32 := Memref.whole cc0_scratch3
abbrev scM0_4 : Memref sig .tc .vmem S24x128 .f32 := Memref.whole cc0_scratch4
abbrev scM0_5 : Memref sig .tc .vmem S8x128 .f32 := Memref.whole cc0_scratch5
abbrev scM0_6 : Memref sig .tc .vmem S4x8x128 .f32 := Memref.whole cc0_scratch6
/-- The scratch `arg18` the kernel carries between points, as a view: what it holds is stated through it. -/
abbrev VS0_6 : View sig .tc .vmem S4x8x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.KernelFrame.RunA.lean ====
/- The run of Kernel's body at the first grid point, as the stores it leaves. -/
module

public import proofs.«01_k».proof.Proof.KernelFrame.Free
public import proofs.«01_k».proof.Proof.KernelFrame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) :
    Σ' (L8 : List (View.Piece (Elt F) S1x128x32x256 .bf16)), Σ' (L9 : List (View.Piece (Elt F) S2x128 .f32)), Σ' (L10 : List (View.Piece (Elt F) S2x128 .f32)), { LS6 : List (View.Piece (Elt F) S4x8x128 .f32) //
      ∀ (xi9 : Vec F S2x128 .f32) (xi10 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_qk_rmsnorm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], ?_, fun xi9 xi10 E K => ?run⟩
  case run =>
    simp only [cc0_qk_rmsnorm_rope_bwd_eq_skeleton]; unfold cc0_qk_rmsnorm_rope_bwd_skel
    simp only [k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    have e := harg1.eq_unread hf0; subst e; have e := harg2.eq_unread hf1; subst e; have e := harg3.eq_unread hf2; subst e; have e := harg4.eq_unread hf3; subst e; have e := harg5.eq_unread hf4; subst e; have e := harg6.eq_unread hf5; subst e; have e := harg7.eq_unread hf6; subst e; have e := harg8.eq_unread hf7; subst e; have e := harg10.eq_unread hf9; subst e; have e := harg11.eq_unread hf10; subst e
    sl_exec (disch := first | sl_exact hc0 | sl_exact hc1)
    sl_step
    rw [pb_junk (f := f8)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.Kernel.Gen

end
-- ==== Proof.KernelFrame.RunB.lean ====
/- The run of Kernel's body at a grid point that is neither the first nor the last, as the stores it leaves. -/
module

public import proofs.«01_k».proof.Proof.KernelFrame.Free
public import proofs.«01_k».proof.Proof.KernelFrame.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) :
    Σ' (L8 : List (View.Piece (Elt F) S1x128x32x256 .bf16)), Σ' (L9 : List (View.Piece (Elt F) S2x128 .f32)), Σ' (L10 : List (View.Piece (Elt F) S2x128 .f32)), { LS6 : List (View.Piece (Elt F) S4x8x128 .f32) //
      ∀ (xi9 : Vec F S2x128 .f32) (xi10 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_qk_rmsnorm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], ?_, fun xi9 xi10 E K => ?run⟩
  case run =>
    simp only [cc0_qk_rmsnorm_rope_bwd_eq_skeleton]; unfold cc0_qk_rmsnorm_rope_bwd_skel
    simp only [k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    have e := harg1.eq_unread hf0; subst e; have e := harg2.eq_unread hf1; subst e; have e := harg3.eq_unread hf2; subst e; have e := harg4.eq_unread hf3; subst e; have e := harg5.eq_unread hf4; subst e; have e := harg6.eq_unread hf5; subst e; have e := harg7.eq_unread hf6; subst e; have e := harg8.eq_unread hf7; subst e; have e := harg10.eq_unread hf9; subst e; have e := harg11.eq_unread hf10; subst e; have e := harg18.eq_unread hfs6; subst e
    sl_exec (disch := first | sl_exact hc0 | sl_exact hc1)
    sl_step
    rw [pb_junk (f := f8)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.Kernel.Gen

end
-- ==== Proof.KernelFrame.RunC.lean ====
/- The run of Kernel's body at the last grid point, as the stores it leaves. -/
module

public import proofs.«01_k».proof.Proof.KernelFrame.Free
public import proofs.«01_k».proof.Proof.KernelFrame.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) :
    Σ' (L8 : List (View.Piece (Elt F) S1x128x32x256 .bf16)), Σ' (L9 : List (View.Piece (Elt F) S2x128 .f32)), Σ' (L10 : List (View.Piece (Elt F) S2x128 .f32)), { LS6 : List (View.Piece (Elt F) S4x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_qk_rmsnorm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_qk_rmsnorm_rope_bwd_eq_skeleton]; unfold cc0_qk_rmsnorm_rope_bwd_skel
    simp only [k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    have e := harg1.eq_unread hf0; subst e; have e := harg2.eq_unread hf1; subst e; have e := harg3.eq_unread hf2; subst e; have e := harg4.eq_unread hf3; subst e; have e := harg5.eq_unread hf4; subst e; have e := harg6.eq_unread hf5; subst e; have e := harg7.eq_unread hf6; subst e; have e := harg8.eq_unread hf7; subst e; have e := harg18.eq_unread hfs6; subst e
    sl_exec (disch := first | sl_exact hc0 | sl_exact hc1)
    sl_step
    unfold kernelRun0_C.sl.v129 kernelRun0_C.sl.v134 kernelRun0_C.sl.v139 kernelRun0_C.sl.v144
    rw [pb_junk (f := f8)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.Kernel.Gen

end
-- ==== Proof.KernelFrame.Whole.lean ====
/- The frame of Kernel: what its buffers hold point by point, the body's obligation, the launch and the frame itself. -/
module

public import proofs.«01_k».proof.Proof.KernelFrame.RunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (128 stores of `S1x1x32x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (y : S1x128x32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1 S1x1x32x256.size (by sl_kernel_rfl) y

/-- What case A leaves in output 8's staging buffer: its pieces read back over junk. -/
def out0_A_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S1x128x32x256 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1)

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S2x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.1)

/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S2x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.1)

/-- Case A's pieces for scratch `arg18`, which the kernel carries between points, cover it: one of them a store of the WHOLE buffer (Lib/Ring.lean `sl_whole_mem`). -/
theorem scover0_A_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (y : S4x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1 (by sl_whole_mem) y

/-- What case A leaves in scratch `arg18`: its pieces read back over junk. -/
def sout0_A_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S4x8x128 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1)

/-- Case B's pieces for output 8 tile its block (128 stores of `S1x1x32x256`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S1x128x32x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1 S1x1x32x256.size (by sl_kernel_rfl) y

/-- What case B leaves in output 8's staging buffer: its pieces read back over junk. -/
def out0_B_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S1x128x32x256 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1)

/-- Case B's pieces for scratch `arg18`, which the kernel carries between points, cover it: 32 pieces of `S1x8x128` tiling it (Lib/Ring.lean `Piece.tiledL`). -/
theorem scover0_B_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S4x8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1 S1x8x128.size (by sl_kernel_rfl) y

/-- What case B leaves in scratch `arg18`: its pieces read back over junk. -/
def sout0_B_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S4x8x128 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1)

/-- Case C's pieces for output 8 tile its block (128 stores of `S1x1x32x256`, checked by the kernel's evaluation: Lib/Ring.lean `Piece.tiledL`, linear in the pieces, through a loop's `@[irreducible]` trip theorem too), so they cover it. -/
theorem cover0_C_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S1x128x32x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1 S1x1x32x256.size (by sl_kernel_rfl) y

/-- What case C leaves in output 8's staging buffer: its pieces read back over junk. -/
def out0_C_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S1x128x32x256 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1)

/-- Case C's pieces for output 9 tile its block (2 stores of `S1x128`, checked by the kernel's evaluation: Lib/Ring.lean `Piece.tiledL`, linear in the pieces, through a loop's `@[irreducible]` trip theorem too), so they cover it. -/
theorem cover0_C_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S2x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1 S1x128.size (by sl_kernel_rfl) y

/-- What case C leaves in output 9's staging buffer: its pieces read back over junk. -/
def out0_C_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1)

/-- Case C's pieces for output 10 tile its block (2 stores of `S1x128`, checked by the kernel's evaluation: Lib/Ring.lean `Piece.tiledL`, linear in the pieces, through a loop's `@[irreducible]` trip theorem too), so they cover it. -/
theorem cover0_C_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S2x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1 S1x128.size (by sl_kernel_rfl) y

/-- What case C leaves in output 10's staging buffer: its pieces read back over junk. -/
def out0_C_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1)

/-- Case C's pieces for scratch `arg18`, which the kernel carries between points, cover it: 32 pieces of `S1x8x128` tiling it (Lib/Ring.lean `Piece.tiledL`). -/
theorem scover0_C_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S4x8x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1 S1x8x128.size (by sl_kernel_rfl) y

/-- What case C leaves in scratch `arg18`: its pieces read back over junk. -/
def sout0_C_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S4x8x128 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x32x256 .bf16 × Vec F S2x128 .f32 × Vec F S2x128 .f32 × Vec F S4x8x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 16 = 15 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_8 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, ⟨%e8, H8⟩, H9, H10, HS0, HS1, HS2, HS3, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _)
        isplitl [H9]; · iexists _; iexact H9
        iexists _; iexact H10
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_8 out0_C_9 out0_C_10 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, ⟨%e8, H8⟩, ⟨%e9, H9⟩, ⟨%e10, H10⟩, HS0, HS1, HS2, HS3, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_8 sout0_B_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, ⟨%e8, H8⟩, H9, H10, HS0, HS1, HS2, HS3, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            unfold owns; iexists _; isplitr
            swap; · iexact HS6
            ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _)
        isplitl [H9]; · iexists _; iexact H9
        iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexact HS1
    isplitl [HS2]
    · iexact HS2
    isplitl [HS3]
    · iexact HS3
    isplitl [HS4]
    · iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KernelIdealFrame.Free.lean ====
/- The stores of the main loop of KernelIdeal do not depend on what the output block held before. -/
module

public import proofs.«01_k».proof.Proof.Gen.KernelIdeal.Loops

@[expose] public section

set_option maxRecDepth 16384

noncomputable section

namespace Cert.KernelIdeal.Gen

open Cert.KernelIdeal
open Idealize.ShloMosaic Idealize.ShloMosaic.TcCoe Idealize.SL.Sem

variable {F : FTy → Type} [FloatOps F]

variable (𝒱 : Variants) (c : Dev nD) (bd : Option 𝒱.V) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole)
variable (v117 v119 v121 v123 : Vec F S1x128 .f32) (X_arg1 : BufTy.Contents (Elt F) arg1.view.ty) (X_arg3 : BufTy.Contents (Elt F) arg3.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty)

/-- One trip's stores do not depend on the contents of the output block. -/
theorem tripL_free (k : Fin k0_t2_loop.trips) (f f' : BufTy.Contents (Elt F) arg9.view.ty) (g : BufTy.Contents (Elt F) arg18.view.ty) :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 k f g
      = tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 k f' g := by
  delta tripL_k0_t2 trip_k0_t2
  rfl

/-- The stores of the trips before any trip do not depend on the contents of the output block at the loop's entry. -/
theorem pb_free (f f' : BufTy.Contents (Elt F) arg9.view.ty) (g : BufTy.Contents (Elt F) arg18.view.ty) :
    ∀ n : ℕ, n ≤ k0_t2_loop.trips →
      pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f g n
        = pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f' g n
  | 0, _ => rfl
  | n + 1, h => by
    have ih := pb_free f f' g n (by omega)
    have e := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f g ⟨n, h⟩
    have e' := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f' g ⟨n, h⟩
    refine e.trans (Eq.trans ?_ e'.symm)
    rw [ih]
    exact congrArg (fun t : List (View.Piece (Elt F) S1x128x32x256 .bf16) × List (View.Piece (Elt F) S4x8x128 .f32) => (t.1 ++ _, t.2 ++ _))
      (tripL_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 ⟨n, h⟩ _ _ _)

/-- The stores of the whole loop, with the contents of the output block at the loop's entry replaced by fixed ones. -/
theorem pb_junk (f : BufTy.Contents (Elt F) arg9.view.ty) (g : BufTy.Contents (Elt F) arg18.view.ty) :
    pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f g (Scf.trips k0_t2_loop.lb k0_t2_loop.ub k0_t2_loop.st)
      = pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 arg9.view.junk g (Scf.trips k0_t2_loop.lb k0_t2_loop.ub k0_t2_loop.st) :=
  pb_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 f arg9.view.junk g _ (le_refl _)

end Cert.KernelIdeal.Gen

end
-- ==== Proof.KernelIdealFrame.Runs.lean ====
/- What the runs of the body of KernelIdeal share: the blocks, the memrefs, the conditions in closed form. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 8, through which its contents are stated (`View.read_writes_of_cover`: the
    choice does not matter). -/
abbrev VO0_8 : View sig .tc .vmem S1x128x32x256 .bf16 := (Memref.whole cc0_stg8_0 : Memref sig .tc .vmem S1x128x32x256 .bf16).view
/-- One staging buffer of output window 9, through which its contents are stated (`View.read_writes_of_cover`: the
    choice does not matter). -/
abbrev VO0_9 : View sig .tc .vmem S2x128 .f32 := (Memref.whole cc0_stg9_0 : Memref sig .tc .vmem S2x128 .f32).view
/-- One staging buffer of output window 10, through which its contents are stated (`View.read_writes_of_cover`: the
    choice does not matter). -/
abbrev VO0_10 : View sig .tc .vmem S2x128 .f32 := (Memref.whole cc0_stg10_0 : Memref sig .tc .vmem S2x128 .f32).view
/-- Each window's current staging memref at point `t`, spelled as the pipeline passes it (`bodyAt0`), and its wholeness. -/
abbrev ms0_0 (t : Fin cfg0.N) : Memref sig .tc .vmem S1x128x32x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x24x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x24 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x32x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
abbrev scM0_2 : Memref sig .tc .vmem S24x128 .f32 := Memref.whole cc0_scratch2
abbrev scM0_3 : Memref sig .tc .vmem S24x128 .f32 := Memref.whole cc0_scratch3
abbrev scM0_4 : Memref sig .tc .vmem S24x128 .f32 := Memref.whole cc0_scratch4
abbrev scM0_5 : Memref sig .tc .vmem S8x128 .f32 := Memref.whole cc0_scratch5
abbrev scM0_6 : Memref sig .tc .vmem S4x8x128 .f32 := Memref.whole cc0_scratch6
/-- The scratch `arg18` the kernel carries between points, as a view: what it holds is stated through it. -/
abbrev VS0_6 : View sig .tc .vmem S4x8x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.KernelIdealFrame.RunA.lean ====
/- The run of KernelIdeal's body at the first grid point, as the stores it leaves. -/
module

public import proofs.«01_k».proof.Proof.KernelIdealFrame.Free
public import proofs.«01_k».proof.Proof.KernelIdealFrame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) :
    Σ' (L8 : List (View.Piece (Elt F) S1x128x32x256 .bf16)), Σ' (L9 : List (View.Piece (Elt F) S2x128 .f32)), Σ' (L10 : List (View.Piece (Elt F) S2x128 .f32)), { LS6 : List (View.Piece (Elt F) S4x8x128 .f32) //
      ∀ (xi9 : Vec F S2x128 .f32) (xi10 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_qk_rmsnorm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], ?_, fun xi9 xi10 E K => ?run⟩
  case run =>
    simp only [cc0_qk_rmsnorm_rope_bwd_eq_skeleton]; unfold cc0_qk_rmsnorm_rope_bwd_skel
    simp only [k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    have e := harg1.eq_unread hf0; subst e; have e := harg2.eq_unread hf1; subst e; have e := harg3.eq_unread hf2; subst e; have e := harg4.eq_unread hf3; subst e; have e := harg5.eq_unread hf4; subst e; have e := harg6.eq_unread hf5; subst e; have e := harg7.eq_unread hf6; subst e; have e := harg8.eq_unread hf7; subst e; have e := harg10.eq_unread hf9; subst e; have e := harg11.eq_unread hf10; subst e
    sl_exec (disch := first | sl_exact hc0 | sl_exact hc1)
    sl_step
    rw [pb_junk (f := f8)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Gen

end
-- ==== Proof.KernelIdealFrame.RunB.lean ====
/- The run of KernelIdeal's body at a grid point that is neither the first nor the last, as the stores it leaves. -/
module

public import proofs.«01_k».proof.Proof.KernelIdealFrame.Free
public import proofs.«01_k».proof.Proof.KernelIdealFrame.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 14 of 16), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) :
    Σ' (L8 : List (View.Piece (Elt F) S1x128x32x256 .bf16)), Σ' (L9 : List (View.Piece (Elt F) S2x128 .f32)), Σ' (L10 : List (View.Piece (Elt F) S2x128 .f32)), { LS6 : List (View.Piece (Elt F) S4x8x128 .f32) //
      ∀ (xi9 : Vec F S2x128 .f32) (xi10 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_qk_rmsnorm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], [], ?_, fun xi9 xi10 E K => ?run⟩
  case run =>
    simp only [cc0_qk_rmsnorm_rope_bwd_eq_skeleton]; unfold cc0_qk_rmsnorm_rope_bwd_skel
    simp only [k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    have e := harg1.eq_unread hf0; subst e; have e := harg2.eq_unread hf1; subst e; have e := harg3.eq_unread hf2; subst e; have e := harg4.eq_unread hf3; subst e; have e := harg5.eq_unread hf4; subst e; have e := harg6.eq_unread hf5; subst e; have e := harg7.eq_unread hf6; subst e; have e := harg8.eq_unread hf7; subst e; have e := harg10.eq_unread hf9; subst e; have e := harg11.eq_unread hf10; subst e; have e := harg18.eq_unread hfs6; subst e
    sl_exec (disch := first | sl_exact hc0 | sl_exact hc1)
    sl_step
    rw [pb_junk (f := f8)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Gen

end
-- ==== Proof.KernelIdealFrame.RunC.lean ====
/- The run of KernelIdeal's body at the last grid point, as the stores it leaves. -/
module

public import proofs.«01_k».proof.Proof.KernelIdealFrame.Free
public import proofs.«01_k».proof.Proof.KernelIdealFrame.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) :
    Σ' (L8 : List (View.Piece (Elt F) S1x128x32x256 .bf16)), Σ' (L9 : List (View.Piece (Elt F) S2x128 .f32)), Σ' (L10 : List (View.Piece (Elt F) S2x128 .f32)), { LS6 : List (View.Piece (Elt F) S4x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f LS6)) -∗ K ⟨⟩))
          ⊢ wp frame (wpE (defs₀ (F := F)) Variants.none c none) E (cc0_qk_rmsnorm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_qk_rmsnorm_rope_bwd_eq_skeleton]; unfold cc0_qk_rmsnorm_rope_bwd_skel
    simp only [k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    have e := harg1.eq_unread hf0; subst e; have e := harg2.eq_unread hf1; subst e; have e := harg3.eq_unread hf2; subst e; have e := harg4.eq_unread hf3; subst e; have e := harg5.eq_unread hf4; subst e; have e := harg6.eq_unread hf5; subst e; have e := harg7.eq_unread hf6; subst e; have e := harg8.eq_unread hf7; subst e; have e := harg18.eq_unread hfs6; subst e
    sl_exec (disch := first | sl_exact hc0 | sl_exact hc1)
    sl_step
    unfold kernelRun0_C.sl.v129 kernelRun0_C.sl.v134 kernelRun0_C.sl.v139 kernelRun0_C.sl.v144
    rw [pb_junk (f := f8)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Gen

end
-- ==== Proof.KernelIdealFrame.Whole.lean ====
/- The frame of KernelIdeal: what its buffers hold point by point, the body's obligation, the launch and the frame itself. -/
module

public import proofs.«01_k».proof.Proof.KernelIdealFrame.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (128 stores of `S1x1x32x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (y : S1x128x32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1 S1x1x32x256.size (by sl_kernel_rfl) y

/-- What case A leaves in output 8's staging buffer: its pieces read back over junk. -/
def out0_A_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S1x128x32x256 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1)

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S2x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.1)

/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S2x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.1)

/-- Case A's pieces for scratch `arg18`, which the kernel carries between points, cover it: one of them a store of the WHOLE buffer (Lib/Ring.lean `sl_whole_mem`). -/
theorem scover0_A_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (y : S4x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1 (by sl_whole_mem) y

/-- What case A leaves in scratch `arg18`: its pieces read back over junk. -/
def sout0_A_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) : Vec F S4x8x128 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1)

/-- Case B's pieces for output 8 tile its block (128 stores of `S1x1x32x256`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S1x128x32x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1 S1x1x32x256.size (by sl_kernel_rfl) y

/-- What case B leaves in output 8's staging buffer: its pieces read back over junk. -/
def out0_B_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S1x128x32x256 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1)

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1)

/-- Case B's pieces for scratch `arg18`, which the kernel carries between points, cover it: 32 pieces of `S1x8x128` tiling it (Lib/Ring.lean `Piece.tiledL`). -/
theorem scover0_B_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S4x8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1 S1x8x128.size (by sl_kernel_rfl) y

/-- What case B leaves in scratch `arg18`: its pieces read back over junk. -/
def sout0_B_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : ¬cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S4x8x128 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1)

/-- Case C's pieces for output 8 tile its block (128 stores of `S1x1x32x256`, checked by the kernel's evaluation: Lib/Ring.lean `Piece.tiledL`, linear in the pieces, through a loop's `@[irreducible]` trip theorem too), so they cover it. -/
theorem cover0_C_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S1x128x32x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1 S1x1x32x256.size (by sl_kernel_rfl) y

/-- What case C leaves in output 8's staging buffer: its pieces read back over junk. -/
def out0_C_8 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S1x128x32x256 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1)

/-- Case C's pieces for output 9 tile its block (2 stores of `S1x128`, checked by the kernel's evaluation: Lib/Ring.lean `Piece.tiledL`, linear in the pieces, through a loop's `@[irreducible]` trip theorem too), so they cover it. -/
theorem cover0_C_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S2x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1 S1x128.size (by sl_kernel_rfl) y

/-- What case C leaves in output 9's staging buffer: its pieces read back over junk. -/
def out0_C_9 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1)

/-- Case C's pieces for output 10 tile its block (2 stores of `S1x128`, checked by the kernel's evaluation: Lib/Ring.lean `Piece.tiledL`, linear in the pieces, through a loop's `@[irreducible]` trip theorem too), so they cover it. -/
theorem cover0_C_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S2x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1 S1x128.size (by sl_kernel_rfl) y

/-- What case C leaves in output 10's staging buffer: its pieces read back over junk. -/
def out0_C_10 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S2x128 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1)

/-- Case C's pieces for scratch `arg18`, which the kernel carries between points, cover it: 32 pieces of `S1x8x128` tiling it (Lib/Ring.lean `Piece.tiledL`). -/
theorem scover0_C_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) (y : S4x8x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1 S1x8x128.size (by sl_kernel_rfl) y

/-- What case C leaves in scratch `arg18`: its pieces read back over junk. -/
def sout0_C_6 (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole) (hc0 : ¬cond0_0 i) (hc1 : cond0_1 i)
    (x0 : Vec F S1x128x32x256 .fp8e5m2) (x1 : Vec F S1x128x32 .f32) (x2 : Vec F S1x128x24x256 .fp8e4m3) (x3 : Vec F S1x128x24 .f32) (x4 : Vec F S2x128 .f32) (x5 : Vec F S2x128 .f32) (x6 : Vec F S1x128 .i32) (x7 : Vec F S1x128 .f32) (xs6 : Vec F S4x8x128 .f32) : Vec F S4x8x128 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x32x256 .bf16 × Vec F S2x128 .f32 × Vec F S2x128 .f32 × Vec F S4x8x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 16 = 15 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_8 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, ⟨%e8, H8⟩, H9, H10, HS0, HS1, HS2, HS3, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _)
        isplitl [H9]; · iexists _; iexact H9
        iexists _; iexact H10
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_8 out0_C_9 out0_C_10 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, ⟨%e8, H8⟩, ⟨%e9, H9⟩, ⟨%e10, H10⟩, HS0, HS1, HS2, HS3, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_8 sout0_B_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, ⟨%e8, H8⟩, H9, H10, HS0, HS1, HS2, HS3, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            unfold owns; iexists _; isplitr
            swap; · iexact HS6
            ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _)
        isplitl [H9]; · iexists _; iexact H9
        iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexact HS1
    isplitl [HS2]
    · iexact HS2
    isplitl [HS3]
    · iexact HS3
    isplitl [HS4]
    · iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Grid.lean ====
/- What the arrays hold after the run: the accumulation over the grid, read at each index. -/
module

public import proofs.«01_k».proof.Proof.KernelIdealFrame.Whole
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S1x2048x32x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- An index that no flushing point's block covers keeps output window 9's array contents at region entry. -/
theorem entry9 (c : Dev nD) (i : S2x128.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

/-- An index that no flushing point's block covers keeps output window 10's array contents at region entry. -/
theorem entry10 (c : Dev nD) (i : S2x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v11_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v11_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v11_2) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 8 cfg0.N
      ∧ r.2.mem ((c : Thread nD τ).loc main_v11_1) = (dats m 0 c).arrAt 9 cfg0.N
      ∧ r.2.mem ((c : Thread nD τ).loc main_v11_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 6: what each point leaves in it, and its fold -/

/-- What the fold starts from: NOTHING NAMED, each named output's and carried scratch's buffer read at junk. No case
    computes from it: the first point's case stores what it names before reading; only an output that case leaves
    idle keeps its junk component. -/
def junk0 : Vec F S1x128x32x256 .bf16 × Vec F S2x128 .f32 × Vec F S2x128 .f32 × Vec F S4x8x128 .f32 :=
  ((VO0_8.read (Elt F) VO0_8.junk, VO0_9.read (Elt F) VO0_9.junk, VO0_10.read (Elt F) VO0_10.junk, VS0_6.read (Elt F) VS0_6.junk) : Vec F S1x128x32x256 .bf16 × Vec F S2x128 .f32 × Vec F S2x128 .f32 × Vec F S4x8x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x128x32x256 .bf16 × Vec F S2x128 .f32 × Vec F S2x128 .f32 × Vec F S4x8x128 .f32) : Vec F S1x128x32x256 .bf16 × Vec F S2x128 .f32 × Vec F S2x128 .f32 × Vec F S4x8x128 .f32 :=
  if h0 : n % 16 = 0 then
    if h1 : n % 16 = 15 then
      False.elim (by have hN : n < 16 := lt_of_lt_of_eq hb (show cfg0.N = 16 from N_0); omega)
    else
      (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    if h1 : n % 16 = 15 then
      (out0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, out0_C_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, out0_C_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, sout0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2)
    else
      (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2, sout0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2.2.2)

/-- `stAt0` at a point of case A: that case's contents. -/
theorem stAt0_A (c : Dev nD) (t : Fin cfg0.N) (acc : Vec F S1x128x32x256 .bf16 × Vec F S2x128 .f32 × Vec F S2x128 .f32 × Vec F S4x8x128 .f32) (h0 : t.val % 16 = 0) (h1 : ¬t.val % 16 = 15) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) :=
  (dif_pos h0).trans ((dif_neg h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S1x2048x32x256.Idx) : ℕ := 16 * ((i 0).val / 1 - 0) + 1 * ((i 1).val / 128 - 0) + 1 * ((i 2).val / 32 - 0) + 1 * ((i 3).val / 256 - 0)
set_option backward.proofsInPublic true in
abbrev loc8Of (i : S1x2048x32x256.Idx) : S1x128x32x256.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 32, Nat.mod_lt _ (by decide)⟩
  | ⟨3, _⟩ => ⟨(i 3).val % 256, Nat.mod_lt _ (by decide)⟩
abbrev pt8Of (i : S1x2048x32x256.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v11_0) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 4) ∧ win0_8.index t (0 : Fin 4) ≤ 0
    ∧ 0 ≤ win0_8.index t (1 : Fin 4) ∧ win0_8.index t (1 : Fin 4) ≤ 15
    ∧ 0 ≤ win0_8.index t (2 : Fin 4) ∧ win0_8.index t (2 : Fin 4) ≤ 0
    ∧ 0 ≤ win0_8.index t (3 : Fin 4) ∧ win0_8.index t (3 : Fin 4) ≤ 0
    ∧ 16 * (win0_8.index t (0 : Fin 4) - 0) + 1 * (win0_8.index t (1 : Fin 4) - 0) + 1 * (win0_8.index t (2 : Fin 4) - 0) + 1 * (win0_8.index t (3 : Fin 4) - 0) = t.val :=
  (by decide +kernel : ∀ t : Fin grid0.N, _)

/-- Every block of the box is SOME flushing point's: `onto8Pt`, the point that writes back the block at place `q` of the box. -/
abbrev onto8Pt (q0 : Fin 1) (q1 : Fin 16) (q2 : Fin 1) (q3 : Fin 1) : Fin grid0.N :=
  ⟨16 * q0.val + 1 * q1.val + 1 * q2.val + 1 * q3.val, lt_of_lt_of_eq (by omega) N_0.symm⟩
theorem idx_onto8 : ∀ (q0 : Fin 1) (q1 : Fin 16) (q2 : Fin 1) (q3 : Fin 1), ∃ t : Fin cfg0.N, (cfg0.win 8).flush t = true ∧ win0_8.index t = ![q0.val + 0, q1.val + 0, q2.val + 0, q3.val + 0] :=
  fun q0 q1 q2 q3 => ⟨onto8Pt q0 q1 q2 q3, (by decide +kernel : ∀ (q0 : Fin 1) (q1 : Fin 16) (q2 : Fin 1) (q3 : Fin 1), win0_8.flush (onto8Pt q0 q1 q2 q3) = true ∧ win0_8.index (onto8Pt q0 q1 q2 q3) = ![q0.val + 0, q1.val + 0, q2.val + 0, q3.val + 0]) q0 q1 q2 q3⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3, e4⟩ := idx_facts8 t
  funext y
  have hy0 : (y 0).val < 1 := (y 0).isLt
  have hy1 : (y 1).val < 128 := (y 1).isLt
  have hy2 : (y 2).val < 32 := (y 2).isLt
  have hy3 : (y 3).val < 256 := (y 3).isLt
  have hb0 : (((cfg0.win 8).blk t).view.emb y 0).val = win0_8.index t (0 : Fin 4) * 1 + 1 * (y 0).val := rfl
  have hb1 : (((cfg0.win 8).blk t).view.emb y 1).val = win0_8.index t (1 : Fin 4) * 128 + 1 * (y 1).val := rfl
  have hb2 : (((cfg0.win 8).blk t).view.emb y 2).val = win0_8.index t (2 : Fin 4) * 32 + 1 * (y 2).val := rfl
  have hb3 : (((cfg0.win 8).blk t).view.emb y 3).val = win0_8.index t (3 : Fin 4) * 256 + 1 * (y 3).val := rfl
  have hr : run8Of (((cfg0.win 8).blk t).view.emb y) = t.val := by
    show 16 * ((((cfg0.win 8).blk t).view.emb y 0).val / 1 - 0) + 1 * ((((cfg0.win 8).blk t).view.emb y 1).val / 128 - 0) + 1 * ((((cfg0.win 8).blk t).view.emb y 2).val / 32 - 0) + 1 * ((((cfg0.win 8).blk t).view.emb y 3).val / 256 - 0) = _
    rw [hb0, hb1, hb2, hb3]
    rw [show (win0_8.index t (0 : Fin 4) * 1 + 1 * (y 0).val) / 1 = win0_8.index t (0 : Fin 4) from by omega]; rw [show (win0_8.index t (1 : Fin 4) * 128 + 1 * (y 1).val) / 128 = win0_8.index t (1 : Fin 4) from by omega]; rw [show (win0_8.index t (2 : Fin 4) * 32 + 1 * (y 2).val) / 32 = win0_8.index t (2 : Fin 4) from by omega]; rw [show (win0_8.index t (3 : Fin 4) * 256 + 1 * (y 3).val) / 256 = win0_8.index t (3 : Fin 4) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 128 = (y 1).val; rw [hb1]; omega
    | ⟨2, _⟩ => show (((cfg0.win 8).blk t).view.emb y 2).val % 32 = (y 2).val; rw [hb2]; omega
    | ⟨3, _⟩ => show (((cfg0.win 8).blk t).view.emb y 3).val % 256 = (y 3).val; rw [hb3]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S1x2048x32x256.Idx) :
    i ∈ ((cfg0.win 8).blk t).view.set ↔ ∀ a : Fin 4, win0_8.index t a * S1x128x32x256.size a ≤ (i a).val ∧ (i a).val < win0_8.index t a * S1x128x32x256.size a + S1x128x32x256.size a := by
  show i ∈ ((View.whole main_v11_0).slice (win0_8.rect t)).set ↔ _
  rw [View.set_slice_whole, Rect.mem_set_unit]
  exact Iff.rfl

/-- THE COVERED INDICES: in some flushing point's block iff inside the box those blocks fill. -/
theorem covered_iff8 (i : S1x2048x32x256.Idx) :
    (∃ t : Fin cfg0.N, (cfg0.win 8).flush t = true ∧ i ∈ ((cfg0.win 8).blk t).view.set) ↔ 0 ≤ (i 0).val ∧ (i 0).val < 1 ∧ 0 ≤ (i 1).val ∧ (i 1).val < 2048 ∧ 0 ≤ (i 2).val ∧ (i 2).val < 32 ∧ 0 ≤ (i 3).val ∧ (i 3).val < 256 := by
  constructor
  · rintro ⟨t, -, hi⟩
    rw [mem_blk8] at hi
    have b0 : win0_8.index t (0 : Fin 4) * 1 ≤ (i 0).val ∧ (i 0).val < win0_8.index t (0 : Fin 4) * 1 + 1 := hi 0
    have b1 : win0_8.index t (1 : Fin 4) * 128 ≤ (i 1).val ∧ (i 1).val < win0_8.index t (1 : Fin 4) * 128 + 128 := hi 1
    have b2 : win0_8.index t (2 : Fin 4) * 32 ≤ (i 2).val ∧ (i 2).val < win0_8.index t (2 : Fin 4) * 32 + 32 := hi 2
    have b3 : win0_8.index t (3 : Fin 4) * 256 ≤ (i 3).val ∧ (i 3).val < win0_8.index t (3 : Fin 4) * 256 + 256 := hi 3
    obtain ⟨e0, e1, e2, e3, e4⟩ := idx_facts8 t
    omega
  · intro h
    have hi0 : (i 0).val < 1 := (i 0).isLt
    have hi1 : (i 1).val < 2048 := (i 1).isLt
    have hi2 : (i 2).val < 32 := (i 2).isLt
    have hi3 : (i 3).val < 256 := (i 3).isLt
    obtain ⟨t, hft, ht⟩ := idx_onto8 ⟨(i 0).val / 1 - 0, by omega⟩ ⟨(i 1).val / 128 - 0, by omega⟩ ⟨(i 2).val / 32 - 0, by omega⟩ ⟨(i 3).val / 256 - 0, by omega⟩
    have q0 : win0_8.index t (0 : Fin 4) = (i 0).val / 1 - 0 + 0 := congrFun ht 0
    have q1 : win0_8.index t (1 : Fin 4) = (i 1).val / 128 - 0 + 0 := congrFun ht 1
    have q2 : win0_8.index t (2 : Fin 4) = (i 2).val / 32 - 0 + 0 := congrFun ht 2
    have q3 : win0_8.index t (3 : Fin 4) = (i 3).val / 256 - 0 + 0 := congrFun ht 3
    refine ⟨t, hft, ?_⟩
    rw [mem_blk8]
    intro a
    match a with
    | ⟨0, _⟩ => show win0_8.index t (0 : Fin 4) * 1 ≤ (i 0).val ∧ (i 0).val < win0_8.index t (0 : Fin 4) * 1 + 1; omega
    | ⟨1, _⟩ => show win0_8.index t (1 : Fin 4) * 128 ≤ (i 1).val ∧ (i 1).val < win0_8.index t (1 : Fin 4) * 128 + 128; omega
    | ⟨2, _⟩ => show win0_8.index t (2 : Fin 4) * 32 ≤ (i 2).val ∧ (i 2).val < win0_8.index t (2 : Fin 4) * 32 + 32; omega
    | ⟨3, _⟩ => show win0_8.index t (3 : Fin 4) * 256 ≤ (i 3).val ∧ (i 3).val < win0_8.index t (3 : Fin 4) * 256 + 256; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 1 := (i 0).isLt; have h1 : (i 1).val < 2048 := (i 1).isLt; have h2 : (i 2).val < 32 := (i 2).isLt; have h3 : (i 3).val < 256 := (i 3).isLt; omega))

/-! ## Output window 9 -/

/-- The block of the array that holds index `i`, numbered in the order the points write the blocks back (one every 16 points),
    `i`'s place in it, and the point that writes it back (the last of its 16). -/
abbrev run9Of (i : S2x128.Idx) : ℕ := 1 * ((i 0).val / 2 - 0) + 1 * ((i 1).val / 128 - 0)
set_option backward.proofsInPublic true in
abbrev loc9Of (i : S2x128.Idx) : S2x128.Idx := fun a => match a with
  | ⟨0, _⟩ => ⟨(i 0).val % 2, Nat.mod_lt _ (by decide)⟩
  | ⟨1, _⟩ => ⟨(i 1).val % 128, Nat.mod_lt _ (by decide)⟩
abbrev pt9Of (i : S2x128.Idx) : ℕ := 16 * run9Of i + 15

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v11_1) := fun i =>
  if h : pt9Of i < cfg0.N then
    (Pipeline.accAt (fun n h => stAt0 m c n h junk0) (stAt0 m c) 0 (pt9Of i) (by omega)).2.1 (loc9Of i)
  else V m c (Pipeline.arrRef spec0 9) i

/-- The printed index map, decided over the grid: output window 9's block indices stay in the box, and the block number
    read off them is the point's (`t / 16`). -/
theorem idx_facts9 : ∀ t : Fin cfg0.N, 0 ≤ win0_9.index t (0 : Fin 2) ∧ win0_9.index t (0 : Fin 2) ≤ 0
    ∧ 0 ≤ win0_9.index t (1 : Fin 2) ∧ win0_9.index t (1 : Fin 2) ≤ 0
    ∧ 1 * (win0_9.index t (0 : Fin 2) - 0) + 1 * (win0_9.index t (1 : Fin 2) - 0) = t.val / 16 :=
  (by decide +kernel : ∀ t : Fin grid0.N, _)

/-- Every block of the box is SOME flushing point's: `onto9Pt`, the point that writes back the block at place `q` of the box (the last point of its run). -/
abbrev onto9Pt (q0 : Fin 1) (q1 : Fin 1) : Fin grid0.N :=
  ⟨16 * (1 * q0.val + 1 * q1.val) + 15, lt_of_lt_of_eq (by omega) N_0.symm⟩
theorem idx_onto9 : ∀ (q0 : Fin 1) (q1 : Fin 1), ∃ t : Fin cfg0.N, (cfg0.win 9).flush t = true ∧ win0_9.index t = ![q0.val + 0, q1.val + 0] :=
  fun q0 q1 => ⟨onto9Pt q0 q1, (by decide +kernel : ∀ (q0 : Fin 1) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 16 = 15 := (flush0_9 t).mp hf
  obtain ⟨e0, e1, e2⟩ := idx_facts9 t
  funext y
  have hy0 : (y 0).val < 2 := (y 0).isLt
  have hy1 : (y 1).val < 128 := (y 1).isLt
  have hb0 : (((cfg0.win 9).blk t).view.emb y 0).val = win0_9.index t (0 : Fin 2) * 2 + 1 * (y 0).val := rfl
  have hb1 : (((cfg0.win 9).blk t).view.emb y 1).val = win0_9.index t (1 : Fin 2) * 128 + 1 * (y 1).val := rfl
  have hr : run9Of (((cfg0.win 9).blk t).view.emb y) = t.val / 16 := by
    show 1 * ((((cfg0.win 9).blk t).view.emb y 0).val / 2 - 0) + 1 * ((((cfg0.win 9).blk t).view.emb y 1).val / 128 - 0) = _
    rw [hb0, hb1]
    rw [show (win0_9.index t (0 : Fin 2) * 2 + 1 * (y 0).val) / 2 = win0_9.index t (0 : Fin 2) from by omega]; rw [show (win0_9.index t (1 : Fin 2) * 128 + 1 * (y 1).val) / 128 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 2 = (y 0).val; rw [hb0]; omega
    | ⟨1, _⟩ => show (((cfg0.win 9).blk t).view.emb y 1).val % 128 = (y 1).val; rw [hb1]; omega
  have hp : pt9Of (((cfg0.win 9).blk t).view.emb y) = t.val := by
    show 16 * run9Of (((cfg0.win 9).blk t).view.emb y) + 15 = _
    rw [hr]; have := Nat.div_add_mod t.val 16; omega
  show (Pipeline.accAt (fun n h => stAt0 m c n h junk0) (stAt0 m c) 0 t.val _).2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S2x128.Idx) :
    i ∈ ((cfg0.win 9).blk t).view.set ↔ ∀ a : Fin 2, win0_9.index t a * S2x128.size a ≤ (i a).val ∧ (i a).val < win0_9.index t a * S2x128.size a + S2x128.size a := by
  show i ∈ ((View.whole main_v11_1).slice (win0_9.rect t)).set ↔ _
  rw [View.set_slice_whole, Rect.mem_set_unit]
  exact Iff.rfl

/-- THE COVERED INDICES: in some flushing point's block iff inside the box those blocks fill. -/
theorem covered_iff9 (i : S2x128.Idx) :
    (∃ t : Fin cfg0.N, (cfg0.win 9).flush t = true ∧ i ∈ ((cfg0.win 9).blk t).view.set) ↔ 0 ≤ (i 0).val ∧ (i 0).val < 2 ∧ 0 ≤ (i 1).val ∧ (i 1).val < 128 := by
  constructor
  · rintro ⟨t, -, hi⟩
    rw [mem_blk9] at hi
    have b0 : win0_9.index t (0 : Fin 2) * 2 ≤ (i 0).val ∧ (i 0).val < win0_9.index t (0 : Fin 2) * 2 + 2 := hi 0
    have b1 : win0_9.index t (1 : Fin 2) * 128 ≤ (i 1).val ∧ (i 1).val < win0_9.index t (1 : Fin 2) * 128 + 128 := hi 1
    obtain ⟨e0, e1, e2⟩ := idx_facts9 t
    omega
  · intro h
    have hi0 : (i 0).val < 2 := (i 0).isLt
    have hi1 : (i 1).val < 128 := (i 1).isLt
    obtain ⟨t, hft, ht⟩ := idx_onto9 ⟨(i 0).val / 2 - 0, by omega⟩ ⟨(i 1).val / 128 - 0, by omega⟩
    have q0 : win0_9.index t (0 : Fin 2) = (i 0).val / 2 - 0 + 0 := congrFun ht 0
    have q1 : win0_9.index t (1 : Fin 2) = (i 1).val / 128 - 0 + 0 := congrFun ht 1
    refine ⟨t, hft, ?_⟩
    rw [mem_blk9]
    intro a
    match a with
    | ⟨0, _⟩ => show win0_9.index t (0 : Fin 2) * 2 ≤ (i 0).val ∧ (i 0).val < win0_9.index t (0 : Fin 2) * 2 + 2; omega
    | ⟨1, _⟩ => show win0_9.index t (1 : Fin 2) * 128 ≤ (i 1).val ∧ (i 1).val < win0_9.index t (1 : Fin 2) * 128 + 128; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 2 := (i 0).isLt; have h1 : (i 1).val < 128 := (i 1).isLt; omega))

/-- Output 9 is written back ONCE, at the last point, and its block is its array: the array after the run is output 9's
    component of the fold over the whole grid — where a hand proof over this window starts. -/
theorem G9_last (c : Dev nD) :
    G9 m c = (Pipeline.accAt (fun n h => stAt0 m c n h junk0) (stAt0 m c) 0 15 (lt_of_lt_of_eq (by decide) N_0.symm)).2.1 := by
  funext i
  have hi0 : (i 0).val < 2 := (i 0).isLt
  have hi1 : (i 1).val < 128 := (i 1).isLt
  have hp : pt9Of i = 15 := by
    show 16 * (1 * ((i 0).val / 2 - 0) + 1 * ((i 1).val / 128 - 0)) + 15 = _
    omega
  have hl : loc9Of i = i := by
    funext a; apply Fin.ext
    match a with
    | ⟨0, _⟩ => show (i 0).val % 2 = (i 0).val; omega
    | ⟨1, _⟩ => show (i 1).val % 128 = (i 1).val; omega
  unfold G9
  rw [dif_pos (by rw [hp]; exact lt_of_lt_of_eq (by decide) N_0.symm), hl, fold0_congr m c _ _ _ _ hp]

/-! ## Output window 10 -/

/-- The block of the array that holds index `i`, numbered in the order the points write the blocks back (one every 16 points),
    `i`'s place in it, and the point that writes it back (the last of its 16). -/
abbrev run10Of (i : S2x128.Idx) : ℕ := 1 * ((i 0).val / 2 - 0) + 1 * ((i 1).val / 128 - 0)
set_option backward.proofsInPublic true in
abbrev loc10Of (i : S2x128.Idx) : S2x128.Idx := fun a => match a with
  | ⟨0, _⟩ => ⟨(i 0).val % 2, Nat.mod_lt _ (by decide)⟩
  | ⟨1, _⟩ => ⟨(i 1).val % 128, Nat.mod_lt _ (by decide)⟩
abbrev pt10Of (i : S2x128.Idx) : ℕ := 16 * run10Of i + 15

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v11_2) := fun i =>
  if h : pt10Of i < cfg0.N then
    (Pipeline.accAt (fun n h => stAt0 m c n h junk0) (stAt0 m c) 0 (pt10Of i) (by omega)).2.2.1 (loc10Of i)
  else V m c (Pipeline.arrRef spec0 10) i

/-- The printed index map, decided over the grid: output window 10's block indices stay in the box, and the block number
    read off them is the point's (`t / 16`). -/
theorem idx_facts10 : ∀ t : Fin cfg0.N, 0 ≤ win0_10.index t (0 : Fin 2) ∧ win0_10.index t (0 : Fin 2) ≤ 0
    ∧ 0 ≤ win0_10.index t (1 : Fin 2) ∧ win0_10.index t (1 : Fin 2) ≤ 0
    ∧ 1 * (win0_10.index t (0 : Fin 2) - 0) + 1 * (win0_10.index t (1 : Fin 2) - 0) = t.val / 16 :=
  (by decide +kernel : ∀ t : Fin grid0.N, _)

/-- Every block of the box is SOME flushing point's: `onto10Pt`, the point that writes back the block at place `q` of the box (the last point of its run). -/
abbrev onto10Pt (q0 : Fin 1) (q1 : Fin 1) : Fin grid0.N :=
  ⟨16 * (1 * q0.val + 1 * q1.val) + 15, lt_of_lt_of_eq (by omega) N_0.symm⟩
theorem idx_onto10 : ∀ (q0 : Fin 1) (q1 : Fin 1), ∃ t : Fin cfg0.N, (cfg0.win 10).flush t = true ∧ win0_10.index t = ![q0.val + 0, q1.val + 0] :=
  fun q0 q1 => ⟨onto10Pt q0 q1, (by decide +kernel : ∀ (q0 : Fin 1) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  have hm : t.val % 16 = 15 := (flush0_10 t).mp hf
  obtain ⟨e0, e1, e2⟩ := idx_facts10 t
  funext y
  have hy0 : (y 0).val < 2 := (y 0).isLt
  have hy1 : (y 1).val < 128 := (y 1).isLt
  have hb0 : (((cfg0.win 10).blk t).view.emb y 0).val = win0_10.index t (0 : Fin 2) * 2 + 1 * (y 0).val := rfl
  have hb1 : (((cfg0.win 10).blk t).view.emb y 1).val = win0_10.index t (1 : Fin 2) * 128 + 1 * (y 1).val := rfl
  have hr : run10Of (((cfg0.win 10).blk t).view.emb y) = t.val / 16 := by
    show 1 * ((((cfg0.win 10).blk t).view.emb y 0).val / 2 - 0) + 1 * ((((cfg0.win 10).blk t).view.emb y 1).val / 128 - 0) = _
    rw [hb0, hb1]
    rw [show (win0_10.index t (0 : Fin 2) * 2 + 1 * (y 0).val) / 2 = win0_10.index t (0 : Fin 2) from by omega]; rw [show (win0_10.index t (1 : Fin 2) * 128 + 1 * (y 1).val) / 128 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 2 = (y 0).val; rw [hb0]; omega
    | ⟨1, _⟩ => show (((cfg0.win 10).blk t).view.emb y 1).val % 128 = (y 1).val; rw [hb1]; omega
  have hp : pt10Of (((cfg0.win 10).blk t).view.emb y) = t.val := by
    show 16 * run10Of (((cfg0.win 10).blk t).view.emb y) + 15 = _
    rw [hr]; have := Nat.div_add_mod t.val 16; omega
  show (Pipeline.accAt (fun n h => stAt0 m c n h junk0) (stAt0 m c) 0 t.val _).2.2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S2x128.Idx) :
    i ∈ ((cfg0.win 10).blk t).view.set ↔ ∀ a : Fin 2, win0_10.index t a * S2x128.size a ≤ (i a).val ∧ (i a).val < win0_10.index t a * S2x128.size a + S2x128.size a := by
  show i ∈ ((View.whole main_v11_2).slice (win0_10.rect t)).set ↔ _
  rw [View.set_slice_whole, Rect.mem_set_unit]
  exact Iff.rfl

/-- THE COVERED INDICES: in some flushing point's block iff inside the box those blocks fill. -/
theorem covered_iff10 (i : S2x128.Idx) :
    (∃ t : Fin cfg0.N, (cfg0.win 10).flush t = true ∧ i ∈ ((cfg0.win 10).blk t).view.set) ↔ 0 ≤ (i 0).val ∧ (i 0).val < 2 ∧ 0 ≤ (i 1).val ∧ (i 1).val < 128 := by
  constructor
  · rintro ⟨t, -, hi⟩
    rw [mem_blk10] at hi
    have b0 : win0_10.index t (0 : Fin 2) * 2 ≤ (i 0).val ∧ (i 0).val < win0_10.index t (0 : Fin 2) * 2 + 2 := hi 0
    have b1 : win0_10.index t (1 : Fin 2) * 128 ≤ (i 1).val ∧ (i 1).val < win0_10.index t (1 : Fin 2) * 128 + 128 := hi 1
    obtain ⟨e0, e1, e2⟩ := idx_facts10 t
    omega
  · intro h
    have hi0 : (i 0).val < 2 := (i 0).isLt
    have hi1 : (i 1).val < 128 := (i 1).isLt
    obtain ⟨t, hft, ht⟩ := idx_onto10 ⟨(i 0).val / 2 - 0, by omega⟩ ⟨(i 1).val / 128 - 0, by omega⟩
    have q0 : win0_10.index t (0 : Fin 2) = (i 0).val / 2 - 0 + 0 := congrFun ht 0
    have q1 : win0_10.index t (1 : Fin 2) = (i 1).val / 128 - 0 + 0 := congrFun ht 1
    refine ⟨t, hft, ?_⟩
    rw [mem_blk10]
    intro a
    match a with
    | ⟨0, _⟩ => show win0_10.index t (0 : Fin 2) * 2 ≤ (i 0).val ∧ (i 0).val < win0_10.index t (0 : Fin 2) * 2 + 2; omega
    | ⟨1, _⟩ => show win0_10.index t (1 : Fin 2) * 128 ≤ (i 1).val ∧ (i 1).val < win0_10.index t (1 : Fin 2) * 128 + 128; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 2 := (i 0).isLt; have h1 : (i 1).val < 128 := (i 1).isLt; omega))

/-- Output 10 is written back ONCE, at the last point, and its block is its array: the array after the run is output 10's
    component of the fold over the whole grid — where a hand proof over this window starts. -/
theorem G10_last (c : Dev nD) :
    G10 m c = (Pipeline.accAt (fun n h => stAt0 m c n h junk0) (stAt0 m c) 0 15 (lt_of_lt_of_eq (by decide) N_0.symm)).2.2.1 := by
  funext i
  have hi0 : (i 0).val < 2 := (i 0).isLt
  have hi1 : (i 1).val < 128 := (i 1).isLt
  have hp : pt10Of i = 15 := by
    show 16 * (1 * ((i 0).val / 2 - 0) + 1 * ((i 1).val / 128 - 0)) + 15 = _
    omega
  have hl : loc10Of i = i := by
    funext a; apply Fin.ext
    match a with
    | ⟨0, _⟩ => show (i 0).val % 2 = (i 0).val; omega
    | ⟨1, _⟩ => show (i 1).val % 128 = (i 1).val; omega
  unfold G10
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v11_0) = G8 m c
      ∧ r.2.mem ((c : Thread nD τ).loc main_v11_1) = G9 m c
      ∧ r.2.mem ((c : Thread nD τ).loc main_v11_2) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.Tok.lean ====
/- One trip of the kernel's main loop, sixteen tokens, in one vocabulary: what a token stores and what it adds to the sums. -/
module

public import proofs.«01_k».proof.Proof.Gen.KernelIdeal.Loops

@[expose] public section

set_option maxRecDepth 16384

noncomputable section

namespace Cert.KernelIdeal.Tok

open Cert.KernelIdeal Cert.KernelIdeal.Gen
open Idealize.ShloMosaic Idealize.ShloMosaic.TcCoe Idealize.SL.Sem

variable {F : FTy → Type} [FloatOps F]

/-- A row of 128 lanes repeated over eight heads. -/
def rows (v : FVec F S1x128 .f32) : FVec F S8x128 .f32 := broadcastTo S8x128 v broadcasts_S1x128_S8x128

/-- One number per head repeated over 128 lanes. -/
def lanes (v : FVec F S8x1 .f32) : FVec F S8x128 .f32 := broadcastTo S8x128 v broadcasts_S8x1_S8x128

/-- First half of the gradient turned back by the rotation, for eight heads. -/
def back1 (C S : FVec F S1x128 .f32) (y1 y2 : FVec F S8x128 .f32) : FVec F S8x128 .f32 := addf (mulf y1 (rows C)) (mulf y2 (rows S))

/-- Second half of the gradient turned back by the rotation, for eight heads. -/
def back2 (C S : FVec F S1x128 .f32) (y1 y2 : FVec F S8x128 .f32) : FVec F S8x128 .f32 := subf (mulf y2 (rows C)) (mulf y1 (rows S))

/-- The eight output rows of eight heads, from their halves, gains and per-head factors. -/
def heads (g1 g2 C S : FVec F S1x128 .f32) (a b w : FVec F S8x1 .f32) (y1 y2 x1 x2 : FVec F S8x128 .f32) : FVec F S8x256 .f32 :=
  have m : FVec F S8x1 .f32 := mulf (mulf (shapeCast S8x1 (multiReduction .add [1] S8
    (addf (mulf (mulf (back1 C S y1 y2) x1) (rows g1)) (mulf (mulf (back2 C S y1 y2) x2) (rows g2)))
    0x00000000#32 reduces_S8x128_S8 (.inl rfl) rfl) shapeCasts_S8_S8x1) w) b
  concatenate S8x256 1
    [⟨S8x128, subf (mulf (mulf (back1 C S y1 y2) (rows g1)) (lanes a)) (mulf x1 (lanes m))⟩,
     ⟨S8x128, subf (mulf (mulf (back2 C S y1 y2) (rows g2)) (lanes a)) (mulf x2 (lanes m))⟩]
    concatenates_S8x128_S8x128_S8x256_d1

/-- The three groups of eight heads fit into the 24 rows of queries and keys. -/
theorem fits24 : ∀ r : Fin 3, S24x256.Slices ![8 * r.val, 0] S8x128 ∧ S24x256.Slices ![8 * r.val, 128] S8x128 := by decide
/-- The three groups of eight heads fit into the 32 rows of the gradient. -/
theorem fits32 : ∀ r : Fin 3, S32x256.Slices ![8 * r.val, 0] S8x128 ∧ S32x256.Slices ![8 * r.val, 128] S8x128 := by decide
/-- The column of a token fits into the per-head factors. -/
theorem fitsCol : ∀ (r : Fin 3) (j : Fin 16), S24x128.Slices ![8 * r.val, j.val] S8x1 := by decide
/-- The column of a token fits into the factors of the values. -/
theorem fitsColV : ∀ j : Fin 16, S8x128.Slices ![0, j.val] S8x1 := by decide

/-- First half of eight rows of the gradient. -/
def y1 (y : Vec F S1x1x32x256 .fp8e5m2) (r : Fin 3) : FVec F S8x128 .f32 := extractStridedSlice S8x128 ![8 * r.val, 0] (k0_pay36 y) (fits32 r).1
/-- Second half of eight rows of the gradient. -/
def y2 (y : Vec F S1x1x32x256 .fp8e5m2) (r : Fin 3) : FVec F S8x128 .f32 := extractStridedSlice S8x128 ![8 * r.val, 128] (k0_pay36 y) (fits32 r).2
/-- First half of eight rows of the inputs. -/
def x1 (x : Vec F S1x1x24x256 .fp8e4m3) (r : Fin 3) : FVec F S8x128 .f32 := extractStridedSlice S8x128 ![8 * r.val, 0] (k0_pay37 x) (fits24 r).1
/-- Second half of eight rows of the inputs. -/
def x2 (x : Vec F S1x1x24x256 .fp8e4m3) (r : Fin 3) : FVec F S8x128 .f32 := extractStridedSlice S8x128 ![8 * r.val, 128] (k0_pay37 x) (fits24 r).2
/-- The factors of token `j` for the heads of group `r`. -/
def col (v : FVec F S24x128 .f32) (r : Fin 3) (j : Fin 16) : FVec F S8x1 .f32 := extractStridedSlice S8x1 ![8 * r.val, j.val] v (fitsCol r j)
/-- The factors of token `j` for the heads of the values. -/
def colV (v : FVec F S8x128 .f32) (j : Fin 16) : FVec F S8x1 .f32 := extractStridedSlice S8x1 ![0, j.val] v (fitsColV j)

/-- What one token stores: its 24 rows of queries and keys, and its eight rows of values. -/
def row (g1 g2 h1 h2 C S : FVec F S1x128 .f32) (a b w : FVec F S24x128 .f32) (d : FVec F S8x128 .f32)
    (y : Vec F S1x1x32x256 .fp8e5m2) (x : Vec F S1x1x24x256 .fp8e4m3) (j : Fin 16) : FVec F S1x1x32x256 .bf16 :=
  shapeCast S1x1x32x256 (truncf .bf16 (concatenate S32x256 0
    [⟨S8x256, heads g1 g2 C S (col a 0 j) (col b 0 j) (col w 0 j) (y1 y 0) (y2 y 0) (x1 x 0) (x2 x 0)⟩,
     ⟨S8x256, heads g1 g2 C S (col a 1 j) (col b 1 j) (col w 1 j) (y1 y 1) (y2 y 1) (x1 x 1) (x2 x 1)⟩,
     ⟨S8x256, heads h1 h2 C S (col a 2 j) (col b 2 j) (col w 2 j) (y1 y 2) (y2 y 2) (x1 x 2) (x2 x 2)⟩,
     ⟨S8x256, mulf (extractStridedSlice S8x256 ![24, 0] (k0_pay36 y) slices_S32x256_o24_0_S8x256)
        (broadcastTo S8x256 (colV d j) broadcasts_S8x1_S8x256)⟩]
    concatenates_S8x256_S8x256_S8x256_S8x256_S32x256_d0) bitsLt_bf16_f32) shapeCasts_S32x256_S1x1x32x256

/-- What eight heads of one token add to the first half of a gain's gradient. -/
def add1 (C S : FVec F S1x128 .f32) (w : FVec F S24x128 .f32) (y : Vec F S1x1x32x256 .fp8e5m2) (x : Vec F S1x1x24x256 .fp8e4m3)
    (r : Fin 3) (j : Fin 16) : FVec F S8x128 .f32 :=
  mulf (mulf (back1 C S (y1 y r) (y2 y r)) (x1 x r)) (lanes (col w r j))
/-- What eight heads of one token add to the second half of a gain's gradient. -/
def add2 (C S : FVec F S1x128 .f32) (w : FVec F S24x128 .f32) (y : Vec F S1x1x32x256 .fp8e5m2) (x : Vec F S1x1x24x256 .fp8e4m3)
    (r : Fin 3) (j : Fin 16) : FVec F S8x128 .f32 :=
  mulf (mulf (back2 C S (y1 y r) (y2 y r)) (x2 x r)) (lanes (col w r j))

/-- A sum over the first `n` of sixteen tokens that takes one addend of each. -/
def sum1 (f : Fin 16 → FVec F S8x128 .f32) : (n : ℕ) → n ≤ 16 → FVec F S8x128 .f32
  | 0, _ => broadcast S8x128 (Scalar.ofBits .f32 0x00000000#32)
  | n + 1, h => addf (sum1 f n (Nat.le_of_succ_le h)) (f ⟨n, h⟩)
/-- A sum over the first `n` of sixteen tokens that takes two addends of each. -/
def sum2 (f g : Fin 16 → FVec F S8x128 .f32) : (n : ℕ) → n ≤ 16 → FVec F S8x128 .f32
  | 0, _ => broadcast S8x128 (Scalar.ofBits .f32 0x00000000#32)
  | n + 1, h => addf (addf (sum2 f g n (Nat.le_of_succ_le h)) (f ⟨n, h⟩)) (g ⟨n, h⟩)

section Trip
variable (𝒱 : Variants) (c : Dev nD) (bd : Option 𝒱.V) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole)
variable (X_arg1 : BufTy.Contents (Elt F) arg1.view.ty) (X_arg3 : BufTy.Contents (Elt F) arg3.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (k : Fin k0_t2_loop.trips)

/-- The gradient's rows of token `j` of trip `k`. -/
def ldY (j : Fin 16) : Vec F S1x1x32x256 .fp8e5m2 := View.readAt (Elt F) arg1.view
  (Rect.unit (s := S1x128x32x256) (k0_off3 k (BitVec.ofNat 32 j.val)) S1x1x32x256.size (k0_off3_inb k j)).toLoadRect X_arg1
/-- The inputs' rows of token `j` of trip `k`. -/
def ldX (j : Fin 16) : Vec F S1x1x24x256 .fp8e4m3 := View.readAt (Elt F) arg3.view
  (Rect.unit (s := S1x128x24x256) (k0_off4 k (BitVec.ofNat 32 j.val)) S1x1x24x256.size (k0_off4_inb k j)).toLoadRect X_arg3
/-- The cosines of token `j` of trip `k`. -/
def ldC (j : Fin 16) : Vec F S1x128 .f32 := View.readAt (Elt F) arg12.view
  (Rect.unit (s := S128x128) (k0_off2 k (BitVec.ofNat 32 j.val)) S1x128.size (k0_off2_inb k j)).toLoadRect X_arg12
/-- The sines of token `j` of trip `k`. -/
def ldS (j : Fin 16) : Vec F S1x128 .f32 := View.readAt (Elt F) arg13.view
  (Rect.unit (s := S128x128) (k0_off2 k (BitVec.ofNat 32 j.val)) S1x128.size (k0_off2_inb k j)).toLoadRect X_arg13
/-- The first per-head factors, turned so that trip `k`'s tokens lie in the first sixteen lanes. -/
def ldA : FVec F S24x128 .f32 := k0_pay28 0#32 1#32 k (View.readAt (Elt F) arg14.view
  (Rect.unit (s := S24x128) ![0, 0] S24x128.size inb_S24x128_S24x128_0_0).toLoadRect X_arg14)
/-- The second per-head factors, turned likewise. -/
def ldB : FVec F S24x128 .f32 := k0_pay29 0#32 1#32 k (View.readAt (Elt F) arg15.view
  (Rect.unit (s := S24x128) ![0, 0] S24x128.size inb_S24x128_S24x128_0_0).toLoadRect X_arg15)
/-- The third per-head factors, turned likewise. -/
def ldW : FVec F S24x128 .f32 := k0_pay30 0#32 1#32 k (View.readAt (Elt F) arg16.view
  (Rect.unit (s := S24x128) ![0, 0] S24x128.size inb_S24x128_S24x128_0_0).toLoadRect X_arg16)
/-- The scales of the values, turned likewise. -/
def ldD : FVec F S8x128 .f32 := k0_pay31 0#32 1#32 k (View.readAt (Elt F) arg17.view
  (Rect.unit (s := S8x128) ![0, 0] S8x128.size inb_S8x128_S8x128_0_0).toLoadRect X_arg17)

/-- What token `j` of trip `k` stores, as a piece of the output block. -/
def piece (v117 v119 v121 v123 : Vec F S1x128 .f32) (j : Fin 16) : View.Piece (Elt F) S1x128x32x256 .bf16 :=
  ⟨Rect.unit (s := S1x128x32x256) (k0_off3 k (BitVec.ofNat 32 j.val)) S1x1x32x256.size (k0_off3_inb k j),
   row (k0_pay1 v117) (k0_pay2 v119) (k0_pay3 v121) (k0_pay4 v123) (ldC arg12 X_arg12 k j) (ldS arg13 X_arg13 k j)
    (ldA arg14 X_arg14 k) (ldB arg15 X_arg15 k) (ldW arg16 X_arg16 k) (ldD arg17 X_arg17 k) (ldY arg1 X_arg1 k j) (ldX arg3 X_arg3 k j) j⟩

/-- A trip's stores into the output block are the sixteen pieces of its tokens. -/
theorem trip_out (v117 v119 v121 v123 : Vec F S1x128 .f32) (f_arg9 : BufTy.Contents (Elt F) arg9.view.ty) (f_arg18 : BufTy.Contents (Elt F) arg18.view.ty) :
    (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 k f_arg9 f_arg18).1
      = [piece arg1 arg3 arg12 arg13 arg14 arg15 arg16 arg17 X_arg1 X_arg3 X_arg12 X_arg13 X_arg14 X_arg15 X_arg16 X_arg17 k v117 v119 v121 v123 15, piece arg1 arg3 arg12 arg13 arg14 arg15 arg16 arg17 X_arg1 X_arg3 X_arg12 X_arg13 X_arg14 X_arg15 X_arg16 X_arg17 k v117 v119 v121 v123 14, piece arg1 arg3 arg12 arg13 arg14 arg15 arg16 arg17 X_arg1 X_arg3 X_arg12 X_arg13 X_arg14 X_arg15 X_arg16 X_arg17 k v117 v119 v121 v123 13, piece arg1 arg3 arg12 arg13 arg14 arg15 arg16 arg17 X_arg1 X_arg3 X_arg12 X_arg13 X_arg14 X_arg15 X_arg16 X_arg17 k v117 v119 v121 v123 12, piece arg1 arg3 arg12 arg13 arg14 arg15 arg16 arg17 X_arg1 X_arg3 X_arg12 X_arg13 X_arg14 X_arg15 X_arg16 X_arg17 k v117 v119 v121 v123 11, piece arg1 arg3 arg12 arg13 arg14 arg15 arg16 arg17 X_arg1 X_arg3 X_arg12 X_arg13 X_arg14 X_arg15 X_arg16 X_arg17 k v117 v119 v121 v123 10, piece arg1 arg3 arg12 arg13 arg14 arg15 arg16 arg17 X_arg1 X_arg3 X_arg12 X_arg13 X_arg14 X_arg15 X_arg16 X_arg17 k v117 v119 v121 v123 9, piece arg1 arg3 arg12 arg13 arg14 arg15 arg16 arg17 X_arg1 X_arg3 X_arg12 X_arg13 X_arg14 X_arg15 X_arg16 X_arg17 k v117 v119 v121 v123 8, piece arg1 arg3 arg12 arg13 arg14 arg15 arg16 arg17 X_arg1 X_arg3 X_arg12 X_arg13 X_arg14 X_arg15 X_arg16 X_arg17 k v117 v119 v121 v123 7, piece arg1 arg3 arg12 arg13 arg14 arg15 arg16 arg17 X_arg1 X_arg3 X_arg12 X_arg13 X_arg14 X_arg15 X_arg16 X_arg17 k v117 v119 v121 v123 6, piece arg1 arg3 arg12 arg13 arg14 arg15 arg16 arg17 X_arg1 X_arg3 X_arg12 X_arg13 X_arg14 X_arg15 X_arg16 X_arg17 k v117 v119 v121 v123 5, piece arg1 arg3 arg12 arg13 arg14 arg15 arg16 arg17 X_arg1 X_arg3 X_arg12 X_arg13 X_arg14 X_arg15 X_arg16 X_arg17 k v117 v119 v121 v123 4, piece arg1 arg3 arg12 arg13 arg14 arg15 arg16 arg17 X_arg1 X_arg3 X_arg12 X_arg13 X_arg14 X_arg15 X_arg16 X_arg17 k v117 v119 v121 v123 3, piece arg1 arg3 arg12 arg13 arg14 arg15 arg16 arg17 X_arg1 X_arg3 X_arg12 X_arg13 X_arg14 X_arg15 X_arg16 X_arg17 k v117 v119 v121 v123 2, piece arg1 arg3 arg12 arg13 arg14 arg15 arg16 arg17 X_arg1 X_arg3 X_arg12 X_arg13 X_arg14 X_arg15 X_arg16 X_arg17 k v117 v119 v121 v123 1, piece arg1 arg3 arg12 arg13 arg14 arg15 arg16 arg17 X_arg1 X_arg3 X_arg12 X_arg13 X_arg14 X_arg15 X_arg16 X_arg17 k v117 v119 v121 v123 0] := by
  delta tripL_k0_t2 trip_k0_t2
  rfl
/-- What a trip adds to the four sums: the query gains' halves, then the key gains' halves. -/
def addQ1 : FVec F S8x128 .f32 := sum2
  (fun j => add1 (ldC arg12 X_arg12 k j) (ldS arg13 X_arg13 k j) (ldW arg16 X_arg16 k) (ldY arg1 X_arg1 k j) (ldX arg3 X_arg3 k j) 0 j)
  (fun j => add1 (ldC arg12 X_arg12 k j) (ldS arg13 X_arg13 k j) (ldW arg16 X_arg16 k) (ldY arg1 X_arg1 k j) (ldX arg3 X_arg3 k j) 1 j) 16 (le_refl _)
/-- What a trip adds to the second half of the query gains' gradient. -/
def addQ2 : FVec F S8x128 .f32 := sum2
  (fun j => add2 (ldC arg12 X_arg12 k j) (ldS arg13 X_arg13 k j) (ldW arg16 X_arg16 k) (ldY arg1 X_arg1 k j) (ldX arg3 X_arg3 k j) 0 j)
  (fun j => add2 (ldC arg12 X_arg12 k j) (ldS arg13 X_arg13 k j) (ldW arg16 X_arg16 k) (ldY arg1 X_arg1 k j) (ldX arg3 X_arg3 k j) 1 j) 16 (le_refl _)
/-- What a trip adds to the first half of the key gains' gradient. -/
def addK1 : FVec F S8x128 .f32 := sum1
  (fun j => add1 (ldC arg12 X_arg12 k j) (ldS arg13 X_arg13 k j) (ldW arg16 X_arg16 k) (ldY arg1 X_arg1 k j) (ldX arg3 X_arg3 k j) 2 j) 16 (le_refl _)
/-- What a trip adds to the second half of the key gains' gradient. -/
def addK2 : FVec F S8x128 .f32 := sum1
  (fun j => add2 (ldC arg12 X_arg12 k j) (ldS arg13 X_arg13 k j) (ldW arg16 X_arg16 k) (ldY arg1 X_arg1 k j) (ldX arg3 X_arg3 k j) 2 j) 16 (le_refl _)

/-- A trip's stores into the four sums. -/
theorem trip_acc (v117 v119 v121 v123 : Vec F S1x128 .f32) (f_arg9 : BufTy.Contents (Elt F) arg9.view.ty) (f_arg18 : BufTy.Contents (Elt F) arg18.view.ty) :
    (tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 k f_arg9 f_arg18).2
      = [⟨Rect.unit (s := S4x8x128) ![3, 0, 0] S1x8x128.size inb_S4x8x128_S1x8x128_3_0_0,
            k0_pay8 (addK2 arg1 arg3 arg12 arg13 arg16 X_arg1 X_arg3 X_arg12 X_arg13 X_arg16 k) (View.readAt (Elt F) arg18.view (Rect.unit (s := S4x8x128) ![3, 0, 0] S1x8x128.size inb_S4x8x128_S1x8x128_3_0_0).toLoadRect f_arg18)⟩,
         ⟨Rect.unit (s := S4x8x128) ![2, 0, 0] S1x8x128.size inb_S4x8x128_S1x8x128_2_0_0,
            k0_pay7 (addK1 arg1 arg3 arg12 arg13 arg16 X_arg1 X_arg3 X_arg12 X_arg13 X_arg16 k) (View.readAt (Elt F) arg18.view (Rect.unit (s := S4x8x128) ![2, 0, 0] S1x8x128.size inb_S4x8x128_S1x8x128_2_0_0).toLoadRect f_arg18)⟩,
         ⟨Rect.unit (s := S4x8x128) ![1, 0, 0] S1x8x128.size inb_S4x8x128_S1x8x128_1_0_0,
            k0_pay6 (addQ2 arg1 arg3 arg12 arg13 arg16 X_arg1 X_arg3 X_arg12 X_arg13 X_arg16 k) (View.readAt (Elt F) arg18.view (Rect.unit (s := S4x8x128) ![1, 0, 0] S1x8x128.size inb_S4x8x128_S1x8x128_1_0_0).toLoadRect f_arg18)⟩,
         ⟨Rect.unit (s := S4x8x128) ![0, 0, 0] S1x8x128.size inb_S4x8x128_S1x8x128_0_0_0,
            k0_pay5 (addQ1 arg1 arg3 arg12 arg13 arg16 X_arg1 X_arg3 X_arg12 X_arg13 X_arg16 k) (View.readAt (Elt F) arg18.view (Rect.unit (s := S4x8x128) ![0, 0, 0] S1x8x128.size inb_S4x8x128_S1x8x128_0_0_0).toLoadRect f_arg18)⟩] := by
  delta tripL_k0_t2 trip_k0_t2
  rfl
end Trip

/-- The mean-square accumulator after one more token: lane `16 k + j` takes the token's sums of squares. -/
def sq (k : BitVec 32) (j : BitVec 32) (x : Vec F S1x1x24x256 .fp8e4m3) (acc : FVec F S24x128 .f32) : FVec F S24x128 .f32 :=
  have u : FVec F S24x256 .f32 := extf .f32 (shapeCast S24x256 x shapeCasts_S1x1x24x256_S24x256 : FVec F S24x256 .fp8e4m3) bitsLt_fp8e4m3_f32
  have u1 : FVec F S24x128 .f32 := extractStridedSlice S24x128 ![0, 0] u slices_S24x256_o0_0_S24x128
  have u2 : FVec F S24x128 .f32 := extractStridedSlice S24x128 ![0, 128] u slices_S24x256_o0_128_S24x128
  select (cmpi .eq (iota .tc S24x128 32 [1] iota_S24x128_d1_w32) (broadcast S24x128 (Scalar.addi (Scalar.muli k 16#32) j)))
    (broadcastTo S24x128 (shapeCast S24x1 (shapeCast S24x1 (multiReduction .add [1] S24 (addf (mulf u1 u1) (mulf u2 u2))
      0x00000000#32 reduces_S24x128_S24 (.inl rfl) rfl) shapeCasts_S24_S24x1) shapeCasts_S24x1_S24x1) broadcasts_S24x1_S24x128) acc

/-- The accumulator after the first `n` tokens of a trip. -/
def sqs (k : BitVec 32) (x : Fin 16 → Vec F S1x1x24x256 .fp8e4m3) (acc : FVec F S24x128 .f32) : (n : ℕ) → n ≤ 16 → FVec F S24x128 .f32
  | 0, _ => acc
  | n + 1, h => sq k (BitVec.ofNat 32 n) (x ⟨n, h⟩) (sqs k x acc n (Nat.le_of_succ_le h))

section Stats
variable (𝒱 : Variants) (c : Dev nD) (bd : Option 𝒱.V) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole)
variable (arg0 : BitVec 32) (v78 : FVec F S24x128 .f32) (v81 : FVec F S32x128 .f32) (X_arg3 : BufTy.Contents (Elt F) arg3.view.ty) (k : Fin k0_t1_loop.trips)

/-- The inputs' rows of token `j` of trip `k` of the loop over squares. -/
def ldX1 (j : Fin 16) : Vec F S1x1x24x256 .fp8e4m3 := View.readAt (Elt F) arg3.view
  (Rect.unit (s := S1x128x24x256) (k0_off1 k (BitVec.ofNat 32 j.val)) S1x1x24x256.size (k0_off1_inb k j)).toLoadRect X_arg3

/-- A trip of the loop over squares takes its sixteen tokens in order. -/
theorem trip_sq (acc : FVec F S24x128 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v78 v81 (iota .tc S24x128 32 [1] iota_S24x128_d1_w32) X_arg3 k acc
      = sqs (Scf.iv 0#32 1#32 k) (ldX1 arg3 X_arg3 k) acc 16 (le_refl _) := by
  delta tripR_k0_t1 trip_k0_t1
  rfl
end Stats

end Cert.KernelIdeal.Tok

end
-- ==== Proof.TokAt.lean ====
/- What a token stores and adds, entry by entry, over the extended reals. -/
module

public import proofs.«01_k».proof.Proof.Tok
public import Idealize.ShloMosaic.Lib.Pointwise
public import Idealize.ShloMosaic.Lib.Pipeline.ValueKit

@[expose] public section

set_option maxRecDepth 16384

noncomputable section

namespace Cert.KernelIdeal.Tok

open Cert.KernelIdeal Cert.KernelIdeal.Gen
open Idealize.ShloMosaic Idealize.ShloMosaic.TcCoe Idealize.SL.Sem

/-- Head `h` of group `r`, among the 24 heads of queries and keys. -/
def hd (r : Fin 3) (h : Fin 8) : Fin 24 := ⟨8 * r.val + h.val, by omega⟩
/-- Head `h` of group `r`, among all 32 heads. -/
def hd32 (r : Fin 3) (h : Fin 8) : Fin 32 := ⟨8 * r.val + h.val, by omega⟩
/-- Lane `l` of the first half. -/
def lo (l : Fin 128) : Fin 256 := ⟨l.val, by omega⟩
/-- Lane `l` of the second half. -/
def hi (l : Fin 128) : Fin 256 := ⟨128 + l.val, by omega⟩

theorem y1_at (y : Vec Ideal S1x1x32x256 .fp8e5m2) (r : Fin 3) (h : Fin 8) (l : Fin 128) :
    y1 y r (ix2 h l) = (y (ix4 0 0 (hd32 r h) (lo l)) : EReal) := by
  fin_cases r <;> pointwise [y1, k0_pay36, hd32, lo]
theorem y2_at (y : Vec Ideal S1x1x32x256 .fp8e5m2) (r : Fin 3) (h : Fin 8) (l : Fin 128) :
    y2 y r (ix2 h l) = (y (ix4 0 0 (hd32 r h) (hi l)) : EReal) := by
  fin_cases r <;> pointwise [y2, k0_pay36, hd32, hi]
theorem x1_at (x : Vec Ideal S1x1x24x256 .fp8e4m3) (r : Fin 3) (h : Fin 8) (l : Fin 128) :
    x1 x r (ix2 h l) = (x (ix4 0 0 (hd r h) (lo l)) : EReal) := by
  fin_cases r <;> pointwise [x1, k0_pay37, hd, lo]
theorem x2_at (x : Vec Ideal S1x1x24x256 .fp8e4m3) (r : Fin 3) (h : Fin 8) (l : Fin 128) :
    x2 x r (ix2 h l) = (x (ix4 0 0 (hd r h) (hi l)) : EReal) := by
  fin_cases r <;> pointwise [x2, k0_pay37, hd, hi]
theorem col_at (v : FVec Ideal S24x128 .f32) (r : Fin 3) (j : Fin 16) (h : Fin 8) :
    col v r j (ix2 h 0) = (v (ix2 (hd r h) ⟨j.val, by omega⟩) : EReal) := by
  fin_cases r <;> pointwise [col, hd]
variable (g1 g2 h1 h2 C S : FVec Ideal S1x128 .f32) (a b w : FVec Ideal S24x128 .f32) (d : FVec Ideal S8x128 .f32)
  (y : Vec Ideal S1x1x32x256 .fp8e5m2) (x : Vec Ideal S1x1x24x256 .fp8e4m3)

theorem back1_at (u v : FVec Ideal S8x128 .f32) (h : Fin 8) (l : Fin 128) :
    back1 C S u v (ix2 h l) = (u (ix2 h l) * C (ix2 0 l) + v (ix2 h l) * S (ix2 0 l) : EReal) := by
  pointwise [back1, rows]
theorem back2_at (u v : FVec Ideal S8x128 .f32) (h : Fin 8) (l : Fin 128) :
    back2 C S u v (ix2 h l) = (v (ix2 h l) * C (ix2 0 l) - u (ix2 h l) * S (ix2 0 l) : EReal) := by
  pointwise [back2, rows]

/-- The per-head correction: the lane sum of gained products, times two factors. -/
def corr (g1 g2 C S : FVec Ideal S1x128 .f32) (b w : FVec Ideal S8x1 .f32) (u1 u2 z1 z2 : FVec Ideal S8x128 .f32) (h : Fin 8) : EReal :=
  (∑ l : Fin 128, ((back1 C S u1 u2 (ix2 h l) : EReal) * z1 (ix2 h l) * g1 (ix2 0 l)
      + (back2 C S u1 u2 (ix2 h l) : EReal) * z2 (ix2 h l) * g2 (ix2 0 l))) * w (ix2 h 0) * b (ix2 h 0)

theorem heads_lo (a b w : FVec Ideal S8x1 .f32) (u1 u2 z1 z2 : FVec Ideal S8x128 .f32) (h : Fin 8) (l : Fin 128) :
    heads g1 g2 C S a b w u1 u2 z1 z2 (ix2 h (lo l))
      = ((back1 C S u1 u2 (ix2 h l) : EReal) * g1 (ix2 0 l) * a (ix2 h 0) - z1 (ix2 h l) * corr g1 g2 C S b w u1 u2 z1 z2 h : EReal) := by
  unfold corr
  pointwise [heads, lanes, rows, lo]
theorem heads_hi (a b w : FVec Ideal S8x1 .f32) (u1 u2 z1 z2 : FVec Ideal S8x128 .f32) (h : Fin 8) (l : Fin 128) :
    heads g1 g2 C S a b w u1 u2 z1 z2 (ix2 h (hi l))
      = ((back2 C S u1 u2 (ix2 h l) : EReal) * g2 (ix2 0 l) * a (ix2 h 0) - z2 (ix2 h l) * corr g1 g2 C S b w u1 u2 z1 z2 h : EReal) := by
  unfold corr
  pointwise [heads, lanes, rows, hi]

/-- The gains of a group: the first two groups are queries, the third is keys. -/
def gainOf (g h : FVec Ideal S1x128 .f32) (r : Fin 3) : FVec Ideal S1x128 .f32 := if r.val < 2 then g else h

theorem row_at (r : Fin 3) (h : Fin 8) (l : Fin 256) (j : Fin 16) :
    row g1 g2 h1 h2 C S a b w d y x j (ix4 0 0 (hd32 r h) l)
      = (heads (gainOf g1 h1 r) (gainOf g2 h2 r) C S (col a r j) (col b r j) (col w r j) (y1 y r) (y2 y r) (x1 x r) (x2 x r) (ix2 h l) : EReal) := by
  fin_cases r <;> pointwise [row, hd32, gainOf]
  rw [dif_neg (by omega), dif_neg (by omega), dif_pos (by omega)]
  congr 2; exact Fin.ext (by simp; omega)
theorem rowV_at (h : Fin 8) (l : Fin 256) (j : Fin 16) :
    row g1 g2 h1 h2 C S a b w d y x j (ix4 0 0 ⟨24 + h.val, by omega⟩ l)
      = (y (ix4 0 0 ⟨24 + h.val, by omega⟩ l) * d (ix2 h ⟨j.val, by omega⟩) : EReal) := by
  pointwise [row, colV, k0_pay36]
  rw [dif_neg (by omega), dif_neg (by omega), dif_neg (by omega)]
  congr 3 <;> exact Fin.ext (by simp; omega)
theorem add1_at (r : Fin 3) (j : Fin 16) (h : Fin 8) (l : Fin 128) :
    add1 C S w y x r j (ix2 h l)
      = ((back1 C S (y1 y r) (y2 y r) (ix2 h l) : EReal) * x1 x r (ix2 h l) * col w r j (ix2 h 0) : EReal) := by
  pointwise [add1, lanes]
theorem add2_at (r : Fin 3) (j : Fin 16) (h : Fin 8) (l : Fin 128) :
    add2 C S w y x r j (ix2 h l)
      = ((back2 C S (y1 y r) (y2 y r) (ix2 h l) : EReal) * x2 x r (ix2 h l) * col w r j (ix2 h 0) : EReal) := by
  pointwise [add2, lanes]

theorem sq_at (k j : BitVec 32) (acc : FVec Ideal S24x128 .f32) (h : Fin 24) (l : Fin 128) :
    sq k j x acc (ix2 h l) = (if BitVec.ofNat 32 l.val = k * 16#32 + j then
      ∑ i : Fin 128, ((x (ix4 0 0 h (lo i)) : EReal) * x (ix4 0 0 h (lo i)) + x (ix4 0 0 h (hi i)) * x (ix4 0 0 h (hi i))) else acc (ix2 h l) : EReal) := by
  pointwise [sq, lo, hi]
  by_cases hc : BitVec.ofNat 32 l.val = k * 16#32 + j
  · rw [if_pos hc]; simp [Scalar.select, IntOp.cmpi, Scalar.addi, Scalar.muli, IntOp.addi, IntOp.muli, hc]
  · have hb : (BitVec.ofNat 32 l.val == k * 16#32 + j) = false := by simpa using hc
    rw [if_neg hc]; simp [hb, Scalar.select, IntOp.cmpi, Scalar.addi, Scalar.muli, IntOp.addi, IntOp.muli, hc]

/-- The row's sum of squares. -/
def ssq (x : Vec Ideal S1x1x24x256 .fp8e4m3) (h : Fin 24) : EReal :=
  ∑ i : Fin 128, ((x (ix4 0 0 h (lo i)) : EReal) * x (ix4 0 0 h (lo i)) + x (ix4 0 0 h (hi i)) * x (ix4 0 0 h (hi i)))

/-- After `n` tokens of trip `k` the lanes `16 k` to `16 k + n - 1` hold the tokens' sums of squares, the others what they held. -/
theorem sqs_at (k : ℕ) (hk : k < 8) (xs : Fin 16 → Vec Ideal S1x1x24x256 .fp8e4m3) (acc : FVec Ideal S24x128 .f32) (h : Fin 24) (l : Fin 128) :
    ∀ (n : ℕ) (hn : n ≤ 16), (sqs (Scf.iv 0#32 1#32 k) xs acc n hn (ix2 h l) : EReal)
      = if hl : 16 * k ≤ l.val ∧ l.val < 16 * k + n then ssq (xs ⟨l.val - 16 * k, by omega⟩) h else acc (ix2 h l)
  | 0, _ => by rw [dif_neg (by omega)]; rfl
  | n + 1, hn => by
    have ih := sqs_at k hk xs acc h l n (by omega)
    show (sq (F := Ideal) _ _ _ _ (ix2 h l) : EReal) = _
    rw [sq_at, ih]
    have hw : (BitVec.ofNat 32 l.val = Scf.iv 0#32 1#32 k * 16#32 + BitVec.ofNat 32 n) ↔ l.val = 16 * k + n := by
      rw [← BitVec.toNat_inj]
      simp only [Scf.iv, BitVec.toNat_add, BitVec.toNat_mul, BitVec.toNat_ofNat]
      omega
    by_cases h1 : l.val = 16 * k + n
    · rw [if_pos (hw.2 h1), dif_pos (by omega)]
      have e : (⟨l.val - 16 * k, by omega⟩ : Fin 16) = ⟨n, hn⟩ := Fin.ext (by simp; omega)
      rw [e]; rfl
    · rw [if_neg (fun h => h1 (hw.1 h))]
      by_cases h2 : 16 * k ≤ l.val ∧ l.val < 16 * k + n
      · rw [dif_pos h2, dif_pos (by omega)]
      · rw [dif_neg h2, dif_neg (by omega)]

theorem sum1_at (f : Fin 16 → FVec Ideal S8x128 .f32) (h : Fin 8) (l : Fin 128) :
    (sum1 f 16 (le_refl _) (ix2 h l) : EReal) = ∑ j : Fin 16, (f j (ix2 h l) : EReal) := by
  have key : ∀ (n : ℕ) (hn : n ≤ 16), (sum1 f n hn (ix2 h l) : EReal) = ∑ j : Fin n, (f ⟨j.val, by omega⟩ (ix2 h l) : EReal) := by
    intro n
    induction n with
    | zero => intro _; pointwise [sum1]; simp
    | succ n ih =>
      intro hn
      rw [Fin.sum_univ_castSucc]
      exact congrArg₂ (· + ·) (ih (by omega)) rfl
  exact key 16 (le_refl _)
theorem sum2_at (f g : Fin 16 → FVec Ideal S8x128 .f32) (h : Fin 8) (l : Fin 128) :
    (sum2 f g 16 (le_refl _) (ix2 h l) : EReal) = ∑ j : Fin 16, ((f j (ix2 h l) : EReal) + g j (ix2 h l)) := by
  have key : ∀ (n : ℕ) (hn : n ≤ 16), (sum2 f g n hn (ix2 h l) : EReal) = ∑ j : Fin n, ((f ⟨j.val, by omega⟩ (ix2 h l) : EReal) + g ⟨j.val, by omega⟩ (ix2 h l)) := by
    intro n
    induction n with
    | zero => intro _; pointwise [sum2]; simp
    | succ n ih =>
      intro hn
      rw [Fin.sum_univ_castSucc]
      refine Eq.trans (add_assoc (sum2 f g n (by omega) (ix2 h l) : EReal) _ _) ?_
      exact congrArg₂ (· + ·) (ih (by omega)) rfl
  exact key 16 (le_refl _)

end Cert.KernelIdeal.Tok

end
-- ==== Proof.TokLoad.lean ====
/- What the loads of a token and the small payloads read, entry by entry. -/
module

public import proofs.«01_k».proof.Proof.TokAt

@[expose] public section

set_option maxRecDepth 16384

noncomputable section

namespace Cert.KernelIdeal.Tok

open Cert.KernelIdeal Cert.KernelIdeal.Gen
open Idealize.ShloMosaic Idealize.ShloMosaic.TcCoe Idealize.SL.Sem

/-- Token `j` of trip `k`, among the block's 128 tokens. -/
def tok (k : ℕ) (hk : k < 8) (j : Fin 16) : Fin 128 := ⟨16 * k + j.val, by omega⟩

/-- The loop over tokens has eight trips. -/
theorem trips2 : k0_t2_loop.trips = 8 := by decide +kernel
/-- The loop over squares has eight trips. -/
theorem trips1 : k0_t1_loop.trips = 8 := by decide +kernel
theorem lt2 (k : Fin k0_t2_loop.trips) : k.val < 8 := trips2 ▸ k.isLt
theorem lt1 (k : Fin k0_t1_loop.trips) : k.val < 8 := trips1 ▸ k.isLt

section
variable (k : Fin k0_t2_loop.trips) (k1 : Fin k0_t1_loop.trips) (j : Fin 16)
variable (arg1 : Memref sig .tc .vmem S1x128x32x256 .fp8e5m2) (X1 : BufTy.Contents (Elt Ideal) arg1.view.ty)
  (arg3 : Memref sig .tc .vmem S1x128x24x256 .fp8e4m3) (X3 : BufTy.Contents (Elt Ideal) arg3.view.ty)
  (arg12 : Memref sig .tc .vmem S128x128 .f32) (X12 : BufTy.Contents (Elt Ideal) arg12.view.ty)
  (arg14 : Memref sig .tc .vmem S24x128 .f32) (X14 : BufTy.Contents (Elt Ideal) arg14.view.ty)
  (arg17 : Memref sig .tc .vmem S8x128 .f32) (X17 : BufTy.Contents (Elt Ideal) arg17.view.ty)

theorem ldY_at (h : Fin 32) (l : Fin 256) :
    ldY arg1 X1 k j (ix4 0 0 h l) = arg1.view.read (Elt Ideal) X1 (ix4 0 (tok k (lt2 k) j) h l) := by
  refine congrArg (arg1.view.read (Elt Ideal) X1) ?_
  funext a; refine Fin.ext ?_
  show k0_off3 k (BitVec.ofNat 32 j.val) a + 1 * _ = _
  refine (congrArg (· + _) (congrFun (k0_off3_eq k j) a)).trans ?_
  fin_cases a <;> simp [tok]
theorem ldX_at (h : Fin 24) (l : Fin 256) :
    ldX arg3 X3 k j (ix4 0 0 h l) = arg3.view.read (Elt Ideal) X3 (ix4 0 (tok k (lt2 k) j) h l) := by
  refine congrArg (arg3.view.read (Elt Ideal) X3) ?_
  funext a; refine Fin.ext ?_
  show k0_off4 k (BitVec.ofNat 32 j.val) a + 1 * _ = _
  refine (congrArg (· + _) (congrFun (k0_off4_eq k j) a)).trans ?_
  fin_cases a <;> simp [tok]
theorem ldX1_at (h : Fin 24) (l : Fin 256) :
    ldX1 arg3 X3 k1 j (ix4 0 0 h l) = arg3.view.read (Elt Ideal) X3 (ix4 0 (tok k1 (lt1 k1) j) h l) := by
  refine congrArg (arg3.view.read (Elt Ideal) X3) ?_
  funext a; refine Fin.ext ?_
  show k0_off1 k1 (BitVec.ofNat 32 j.val) a + 1 * _ = _
  refine (congrArg (· + _) (congrFun (k0_off1_eq k1 j) a)).trans ?_
  fin_cases a <;> simp [tok]
theorem ldC_at (l : Fin 128) :
    ldC arg12 X12 k j (ix2 0 l) = arg12.view.read (Elt Ideal) X12 (ix2 (tok k (lt2 k) j) l) := by
  refine congrArg (arg12.view.read (Elt Ideal) X12) ?_
  funext a; refine Fin.ext ?_
  show k0_off2 k (BitVec.ofNat 32 j.val) a + 1 * _ = _
  refine (congrArg (· + _) (congrFun (k0_off2_eq k j) a)).trans ?_
  fin_cases a <;> simp [tok]
theorem ldS_at (l : Fin 128) :
    ldS arg12 X12 k j (ix2 0 l) = arg12.view.read (Elt Ideal) X12 (ix2 (tok k (lt2 k) j) l) := ldC_at k j arg12 X12 l

/-- The whole of a buffer of per-head factors. -/
theorem full24 (v : Memref sig .tc .vmem S24x128 .f32) (X : BufTy.Contents (Elt Ideal) v.view.ty) :
    View.readAt (Elt Ideal) v.view (Rect.unit (s := S24x128) ![0, 0] S24x128.size inb_S24x128_S24x128_0_0).toLoadRect X
      = v.view.read (Elt Ideal) X := by
  funext y
  refine congrArg (v.view.read (Elt Ideal) X) ?_
  funext a; refine Fin.ext ?_
  show ![0, 0] a + 1 * _ = _
  fin_cases a <;> simp
theorem full8 (v : Memref sig .tc .vmem S8x128 .f32) (X : BufTy.Contents (Elt Ideal) v.view.ty) :
    View.readAt (Elt Ideal) v.view (Rect.unit (s := S8x128) ![0, 0] S8x128.size inb_S8x128_S8x128_0_0).toLoadRect X
      = v.view.read (Elt Ideal) X := by
  funext y
  refine congrArg (v.view.read (Elt Ideal) X) ?_
  funext a; refine Fin.ext ?_
  show ![0, 0] a + 1 * _ = _
  fin_cases a <;> simp

theorem amount : ∀ k : Fin 8, (Scalar.remsi (Scalar.subi 128#32 (Scalar.muli (Scf.iv 0#32 1#32 k.val) 16#32)) 128#32).toNat % 128
    = (128 - 16 * k.val) % 128 := by decide +kernel

/-- Turning by `128 - 16 k` lanes brings lane `16 k + j` to lane `j`. -/
theorem turn24 (v : FVec Ideal S24x128 .f32) (h : Fin 24) :
    (k0_pay28 (F := Ideal) 0#32 1#32 k v (ix2 h ⟨j.val, by omega⟩) : EReal) = v (ix2 h (tok k (lt2 k) j)) := by
  have e := amount ⟨k.val, lt2 k⟩
  pointwise [k0_pay28, tok]
  congr 2
  refine Fin.ext ?_
  have := lt2 k
  dsimp only at e ⊢
  rw [e]
  omega
theorem turn8 (v : FVec Ideal S8x128 .f32) (h : Fin 8) :
    (k0_pay31 (F := Ideal) 0#32 1#32 k v (ix2 h ⟨j.val, by omega⟩) : EReal) = v (ix2 h (tok k (lt2 k) j)) := by
  have e := amount ⟨k.val, lt2 k⟩
  pointwise [k0_pay31, tok]
  congr 2
  refine Fin.ext ?_
  have := lt2 k
  dsimp only at e ⊢
  rw [e]
  omega

theorem ldA_at (h : Fin 24) :
    (ldA arg14 X14 k (ix2 h ⟨j.val, by omega⟩) : EReal) = arg14.view.read (Elt Ideal) X14 (ix2 h (tok k (lt2 k) j)) := by
  refine (turn24 k j _ h).trans ?_
  rw [full24]
theorem ldB_at (h : Fin 24) :
    (ldB arg14 X14 k (ix2 h ⟨j.val, by omega⟩) : EReal) = arg14.view.read (Elt Ideal) X14 (ix2 h (tok k (lt2 k) j)) := ldA_at k j arg14 X14 h
theorem ldW_at (h : Fin 24) :
    (ldW arg14 X14 k (ix2 h ⟨j.val, by omega⟩) : EReal) = arg14.view.read (Elt Ideal) X14 (ix2 h (tok k (lt2 k) j)) := ldA_at k j arg14 X14 h
theorem ldD_at (h : Fin 8) :
    (ldD arg17 X17 k (ix2 h ⟨j.val, by omega⟩) : EReal) = arg17.view.read (Elt Ideal) X17 (ix2 h (tok k (lt2 k) j)) := by
  refine (turn8 k j _ h).trans ?_
  rw [full8]
end

/-- The row of per-lane gains is the load itself. -/
theorem gain_at (v : Vec Ideal S1x128 .f32) (l : Fin 128) : (k0_pay1 v (ix2 0 l) : EReal) = v (ix2 0 l) := by
  pointwise [k0_pay1]

/-- Adding to one of the sums. -/
theorem acc_at (f : FVec Ideal S8x128 .f32) (g : Vec Ideal S1x8x128 .f32) (s : Fin 8) (l : Fin 128) :
    (k0_pay5 f g (ix3 0 s l) : EReal) = g (ix3 0 s l) + f (ix2 s l) := by
  pointwise [k0_pay5]

section
variable (v3 : Vec Ideal S1x128x24 .f32) (v1 : Vec Ideal S1x128x32 .f32) (s : FVec Ideal S24x128 .f32) (t : Fin 128)

/-- The inverse root of a row's mean square. -/
def rho (xs ms : EReal) : EReal := Ideal.rsqrt (ms * (xs * xs) * Ideal.ofBits .f32 0x3B800000#32 + Ideal.ofBits .f32 0x358637BD#32)

theorem rstd_at (h : Fin 24) : (k0_pay724 (k0_pay719 v3) s (ix2 h t) : EReal) = rho (v3 (ix3 0 t h)) (s (ix2 h t)) := by
  pointwise [k0_pay724, k0_pay719, rho]
theorem a_at (h : Fin 24) : (k0_pay726 (k0_pay719 v3) (k0_pay720 v1) s (ix2 h t) : EReal)
    = v1 (ix3 0 t ⟨h.val, by omega⟩) * rho (v3 (ix3 0 t h)) (s (ix2 h t)) := by
  pointwise [k0_pay726, k0_pay725, k0_pay720, k0_pay724, k0_pay719, rho]
theorem w_at (h : Fin 24) : (k0_pay727 (k0_pay719 v3) (k0_pay720 v1) s (ix2 h t) : EReal)
    = v1 (ix3 0 t ⟨h.val, by omega⟩) * (v3 (ix3 0 t h) * rho (v3 (ix3 0 t h)) (s (ix2 h t))) := by
  pointwise [k0_pay727, k0_pay725, k0_pay720, k0_pay724, k0_pay719, rho]
theorem b_at (h : Fin 24) : (k0_pay728 (k0_pay719 v3) s (ix2 h t) : EReal)
    = v3 (ix3 0 t h) * rho (v3 (ix3 0 t h)) (s (ix2 h t)) * rho (v3 (ix3 0 t h)) (s (ix2 h t)) * Ideal.ofBits .f32 0x3B800000#32 := by
  pointwise [k0_pay728, k0_pay724, k0_pay719, rho]
theorem d_at (h : Fin 8) : (k0_pay721 (k0_pay720 v1) (ix2 h t) : EReal) = v1 (ix3 0 t ⟨24 + h.val, by omega⟩) := by
  pointwise [k0_pay721, k0_pay720]
theorem zero24_at (h : Fin 24) : (k0_pay722 (F := Ideal) (ix2 h t) : EReal) = 0 := by
  pointwise [k0_pay722]
theorem zero4_at (p : Fin 4) (h : Fin 8) : (k0_pay729 (F := Ideal) (ix3 p h t) : EReal) = 0 := by
  pointwise [k0_pay729]
theorem sub_at (v : Vec Ideal S1x8x128 .f32) (l : Fin 128) : (k0_pay9 v (ix2 0 l) : EReal) = ∑ s : Fin 8, (v (ix3 0 s l) : EReal) := by
  pointwise [k0_pay9]
end

end Cert.KernelIdeal.Tok

end
-- ==== Proof.TokVal.lean ====
/- What the loop over tokens leaves: the block of the output, and the four sums. -/
module

public import proofs.«01_k».proof.Proof.TokLoad

@[expose] public section

set_option maxRecDepth 16384

noncomputable section

namespace Cert.KernelIdeal.Tok

open Cert.KernelIdeal Cert.KernelIdeal.Gen
open Idealize.ShloMosaic Idealize.ShloMosaic.TcCoe Idealize.SL.Sem

/-- A query or key head among all heads. -/
def up (h : Fin 24) : Fin 32 := ⟨h.val, by omega⟩

section Block
variable (Y : S1x128x32x256.Idx → EReal) (X : S1x128x24x256.Idx → EReal) (C S : S128x128.Idx → EReal)
  (A B W : S24x128.Idx → EReal) (D : S8x128.Idx → EReal) (G1 G2 H1 H2 : Fin 128 → EReal)

/-- First half of a gradient row turned back. -/
def v1 (t : Fin 128) (h : Fin 24) (l : Fin 128) : EReal :=
  Y (ix4 0 t (up h) (lo l)) * C (ix2 t l) + Y (ix4 0 t (up h) (hi l)) * S (ix2 t l)
/-- Second half of a gradient row turned back. -/
def v2 (t : Fin 128) (h : Fin 24) (l : Fin 128) : EReal :=
  Y (ix4 0 t (up h) (hi l)) * C (ix2 t l) - Y (ix4 0 t (up h) (lo l)) * S (ix2 t l)
/-- The gain of a head: queries come first. -/
def gn (g k : Fin 128 → EReal) (h : Fin 24) (l : Fin 128) : EReal := if h.val < 16 then g l else k l
/-- The correction of a row. -/
def cor (t : Fin 128) (h : Fin 24) : EReal :=
  (∑ l : Fin 128, (v1 Y C S t h l * X (ix4 0 t h (lo l)) * gn G1 H1 h l + v2 Y C S t h l * X (ix4 0 t h (hi l)) * gn G2 H2 h l))
    * W (ix2 h t) * B (ix2 h t)
/-- First half of an output row. -/
def o1 (t : Fin 128) (h : Fin 24) (l : Fin 128) : EReal :=
  v1 Y C S t h l * gn G1 H1 h l * A (ix2 h t) - X (ix4 0 t h (lo l)) * cor Y X C S B W G1 G2 H1 H2 t h
/-- Second half of an output row. -/
def o2 (t : Fin 128) (h : Fin 24) (l : Fin 128) : EReal :=
  v2 Y C S t h l * gn G2 H2 h l * A (ix2 h t) - X (ix4 0 t h (hi l)) * cor Y X C S B W G1 G2 H1 H2 t h
/-- The output block: rows of queries and keys, then scaled rows of values. -/
def blk : S1x128x32x256.Idx → EReal := fun y =>
  if h : (y 2).val < 24 then
    if hl : (y 3).val < 128 then o1 Y X C S A B W G1 G2 H1 H2 (y 1) ⟨(y 2).val, h⟩ ⟨(y 3).val, hl⟩
    else o2 Y X C S A B W G1 G2 H1 H2 (y 1) ⟨(y 2).val, h⟩ ⟨(y 3).val - 128, by have : (y 3).val < 256 := (y 3).isLt; omega⟩
  else Y y * D (ix2 ⟨(y 2).val - 24, by have : (y 2).val < 32 := (y 2).isLt; omega⟩ (y 1))

theorem blk_lo (t : Fin 128) (h : Fin 24) (l : Fin 128) :
    blk Y X C S A B W D G1 G2 H1 H2 (ix4 0 t (up h) (lo l)) = o1 Y X C S A B W G1 G2 H1 H2 t h l := by
  unfold blk
  rw [dif_pos (show ((ix4 0 t (up h) (lo l) : S1x128x32x256.Idx) 2).val < 24 from h.isLt),
    dif_pos (show ((ix4 0 t (up h) (lo l) : S1x128x32x256.Idx) 3).val < 128 from l.isLt)]
  rfl
theorem blk_hi (t : Fin 128) (h : Fin 24) (l : Fin 128) :
    blk Y X C S A B W D G1 G2 H1 H2 (ix4 0 t (up h) (hi l)) = o2 Y X C S A B W G1 G2 H1 H2 t h l := by
  unfold blk
  rw [dif_pos (show ((ix4 0 t (up h) (hi l) : S1x128x32x256.Idx) 2).val < 24 from h.isLt),
    dif_neg (show ¬((ix4 0 t (up h) (hi l) : S1x128x32x256.Idx) 3).val < 128 from Nat.not_lt.2 (Nat.le_add_right _ _))]
  exact congrArg _ (Fin.ext (Nat.add_sub_cancel_left _ _))
theorem blk_v (t : Fin 128) (h : Fin 8) (l : Fin 256) :
    blk Y X C S A B W D G1 G2 H1 H2 (ix4 0 t ⟨24 + h.val, by omega⟩ l) = Y (ix4 0 t ⟨24 + h.val, by omega⟩ l) * D (ix2 h t) := by
  unfold blk
  rw [dif_neg (show ¬((ix4 0 t ⟨24 + h.val, by omega⟩ l : S1x128x32x256.Idx) 2).val < 24 from Nat.not_lt.2 (Nat.le_add_right _ _))]
  exact congrArg (fun z => Y (ix4 0 t ⟨24 + h.val, by omega⟩ l) * D (ix2 z t)) (Fin.ext (Nat.add_sub_cancel_left _ _))

/-- What token `t` adds to entry `(s, l)` of the four sums: both query groups, then the key group, by halves. -/
def term (p : Fin 4) (t : Fin 128) (s : Fin 8) (l : Fin 128) : EReal :=
  match p with
  | 0 => v1 Y C S t (hd 0 s) l * X (ix4 0 t (hd 0 s) (lo l)) * W (ix2 (hd 0 s) t)
      + v1 Y C S t (hd 1 s) l * X (ix4 0 t (hd 1 s) (lo l)) * W (ix2 (hd 1 s) t)
  | 1 => v2 Y C S t (hd 0 s) l * X (ix4 0 t (hd 0 s) (hi l)) * W (ix2 (hd 0 s) t)
      + v2 Y C S t (hd 1 s) l * X (ix4 0 t (hd 1 s) (hi l)) * W (ix2 (hd 1 s) t)
  | 2 => v1 Y C S t (hd 2 s) l * X (ix4 0 t (hd 2 s) (lo l)) * W (ix2 (hd 2 s) t)
  | 3 => v2 Y C S t (hd 2 s) l * X (ix4 0 t (hd 2 s) (hi l)) * W (ix2 (hd 2 s) t)
end Block

/-- A head is head `h` of group `r`. -/
theorem head_cases (P : Fin 24 → Prop) (H : ∀ (r : Fin 3) (h : Fin 8), P (hd r h)) (n : Fin 24) : P n := by
  have := H ⟨n.val / 8, by omega⟩ ⟨n.val % 8, by omega⟩
  rwa [show hd ⟨n.val / 8, by omega⟩ ⟨n.val % 8, by omega⟩ = n from Fin.ext (by simp [hd]; omega)] at this
/-- A lane is a lane of the first or of the second half. -/
theorem lane_cases (P : Fin 256 → Prop) (H1 : ∀ l, P (lo l)) (H2 : ∀ l, P (hi l)) (n : Fin 256) : P n := by
  by_cases h : n.val < 128
  · exact H1 ⟨n.val, h⟩
  · have := H2 ⟨n.val - 128, by omega⟩
    rwa [show hi ⟨n.val - 128, by omega⟩ = n from Fin.ext (by simp [hi]; omega)] at this
/-- A row is one of queries and keys or one of values. -/
theorem row_cases (P : Fin 32 → Prop) (H1 : ∀ h, P (up h)) (H2 : ∀ h : Fin 8, P ⟨24 + h.val, by omega⟩) (n : Fin 32) : P n := by
  by_cases h : n.val < 24
  · exact H1 ⟨n.val, h⟩
  · have := H2 ⟨n.val - 24, by omega⟩
    rwa [show (⟨24 + (n.val - 24), by omega⟩ : Fin 32) = n from Fin.ext (by simp; omega)] at this

theorem gainOf_at (v w : Vec Ideal S1x128 .f32) (r : Fin 3) (h : Fin 8) (l : Fin 128) :
    (gainOf (k0_pay1 v) (k0_pay1 w) r (ix2 0 l) : EReal) = gn (fun l => v (ix2 0 l)) (fun l => w (ix2 0 l)) (hd r h) l := by
  unfold gainOf gn
  by_cases hr : r.val < 2
  · rw [if_pos hr, if_pos (by show 8 * r.val + h.val < 16; omega)]; exact gain_at v l
  · rw [if_neg hr, if_neg (by show ¬ 8 * r.val + h.val < 16; omega)]; exact gain_at w l

section Loop
variable (𝒱 : Variants) (c : Dev nD) (bd : Option 𝒱.V) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole)
variable (X_arg1 : BufTy.Contents (Elt Ideal) arg1.view.ty) (X_arg3 : BufTy.Contents (Elt Ideal) arg3.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty)
variable (v117 v119 v121 v123 : Vec Ideal S1x128 .f32)

section Trip
variable (k : Fin k0_t2_loop.trips) (j : Fin 16)

theorem bk1_at (r : Fin 3) (h : Fin 8) (l : Fin 128) :
    (back1 (F := Ideal) (ldC arg12 X_arg12 k j) (ldS arg13 X_arg13 k j) (y1 (ldY arg1 X_arg1 k j) r) (y2 (ldY arg1 X_arg1 k j) r) (ix2 h l) : EReal)
      = v1 (arg1.view.read (Elt Ideal) X_arg1) (arg12.view.read (Elt Ideal) X_arg12) (arg13.view.read (Elt Ideal) X_arg13) (tok k (lt2 k) j) (hd r h) l := by
  rw [back1_at, y1_at, y2_at, ldC_at, ldS_at, ldY_at, ldY_at]
  rfl
theorem bk2_at (r : Fin 3) (h : Fin 8) (l : Fin 128) :
    (back2 (F := Ideal) (ldC arg12 X_arg12 k j) (ldS arg13 X_arg13 k j) (y1 (ldY arg1 X_arg1 k j) r) (y2 (ldY arg1 X_arg1 k j) r) (ix2 h l) : EReal)
      = v2 (arg1.view.read (Elt Ideal) X_arg1) (arg12.view.read (Elt Ideal) X_arg12) (arg13.view.read (Elt Ideal) X_arg13) (tok k (lt2 k) j) (hd r h) l := by
  rw [back2_at, y1_at, y2_at, ldC_at, ldS_at, ldY_at, ldY_at]
  rfl

/-- The piece that token `j` of trip `k` stores is its part of the block. -/
theorem piece_at (x : S1x1x32x256.Idx) :
    ((piece (F := Ideal) arg1 arg3 arg12 arg13 arg14 arg15 arg16 arg17 X_arg1 X_arg3 X_arg12 X_arg13 X_arg14 X_arg15 X_arg16 X_arg17 k v117 v119 v121 v123 j).2 x : EReal)
      = blk (arg1.view.read (Elt Ideal) X_arg1) (arg3.view.read (Elt Ideal) X_arg3) (arg12.view.read (Elt Ideal) X_arg12) (arg13.view.read (Elt Ideal) X_arg13) (arg14.view.read (Elt Ideal) X_arg14) (arg15.view.read (Elt Ideal) X_arg15) (arg16.view.read (Elt Ideal) X_arg16) (arg17.view.read (Elt Ideal) X_arg17) (fun l => v117 (ix2 0 l)) (fun l => v119 (ix2 0 l)) (fun l => v121 (ix2 0 l)) (fun l => v123 (ix2 0 l)) ((piece (F := Ideal) arg1 arg3 arg12 arg13 arg14 arg15 arg16 arg17 X_arg1 X_arg3 X_arg12 X_arg13 X_arg14 X_arg15 X_arg16 X_arg17 k v117 v119 v121 v123 j).1.emb x) := by
  have he : (piece (F := Ideal) arg1 arg3 arg12 arg13 arg14 arg15 arg16 arg17 X_arg1 X_arg3 X_arg12 X_arg13 X_arg14 X_arg15 X_arg16 X_arg17 k v117 v119 v121 v123 j).1.emb x = ix4 0 (tok k (lt2 k) j) (x 2) (x 3) := by
    funext a; refine Fin.ext ?_
    show k0_off3 k (BitVec.ofNat 32 j.val) a + 1 * _ = _
    refine (congrArg (· + _) (congrFun (k0_off3_eq k j) a)).trans ?_
    have h0 : (x 0).val = 0 := by have : (x 0).val < 1 := (x 0).isLt; omega
    have h1 : (x 1).val = 0 := by have : (x 1).val < 1 := (x 1).isLt; omega
    fin_cases a
    · simpa using h0
    · simpa [tok] using h1
    · simp
    · simp
  rw [he]
  have hx : x = ix4 0 0 (x 2) (x 3) := by
    funext a; refine Fin.ext ?_
    have h0 : (x 0).val = 0 := by have : (x 0).val < 1 := (x 0).isLt; omega
    have h1 : (x 1).val = 0 := by have : (x 1).val < 1 := (x 1).isLt; omega
    fin_cases a
    · simpa using h0
    · simpa using h1
    · rfl
    · rfl
  rw [show ((piece (F := Ideal) arg1 arg3 arg12 arg13 arg14 arg15 arg16 arg17 X_arg1 X_arg3 X_arg12 X_arg13 X_arg14 X_arg15 X_arg16 X_arg17 k v117 v119 v121 v123 j).2 x : EReal) = (piece (F := Ideal) arg1 arg3 arg12 arg13 arg14 arg15 arg16 arg17 X_arg1 X_arg3 X_arg12 X_arg13 X_arg14 X_arg15 X_arg16 X_arg17 k v117 v119 v121 v123 j).2 (ix4 0 0 (x 2) (x 3)) from congrArg _ hx]
  suffices H : ∀ (n : Fin 32) (l : Fin 256), ((piece (F := Ideal) arg1 arg3 arg12 arg13 arg14 arg15 arg16 arg17 X_arg1 X_arg3 X_arg12 X_arg13 X_arg14 X_arg15 X_arg16 X_arg17 k v117 v119 v121 v123 j).2 (ix4 0 0 n l) : EReal)
      = blk (arg1.view.read (Elt Ideal) X_arg1) (arg3.view.read (Elt Ideal) X_arg3) (arg12.view.read (Elt Ideal) X_arg12) (arg13.view.read (Elt Ideal) X_arg13) (arg14.view.read (Elt Ideal) X_arg14) (arg15.view.read (Elt Ideal) X_arg15) (arg16.view.read (Elt Ideal) X_arg16) (arg17.view.read (Elt Ideal) X_arg17) (fun l => v117 (ix2 0 l)) (fun l => v119 (ix2 0 l)) (fun l => v121 (ix2 0 l)) (fun l => v123 (ix2 0 l)) (ix4 0 (tok k (lt2 k) j) n l) from H (x 2) (x 3)
  intro n
  induction n using row_cases with
  | H1 h =>
    induction h using head_cases with
    | H r h =>
      intro l
      induction l using lane_cases with
      | H1 l =>
        rw [blk_lo]
        refine (row_at _ _ _ _ _ _ _ _ _ _ _ _ r h (lo l) j).trans ?_
        rw [heads_lo]; unfold corr o1 cor
        simp only [bk1_at, bk2_at, x1_at, x2_at, ldX_at, col_at, ldA_at, ldB_at, ldW_at]
        simp only [show k0_pay2 (F := Ideal) = k0_pay1 from rfl, show k0_pay3 (F := Ideal) = k0_pay1 from rfl, show k0_pay4 (F := Ideal) = k0_pay1 from rfl, gainOf_at _ _ r h]
      | H2 l =>
        rw [blk_hi]
        refine (row_at _ _ _ _ _ _ _ _ _ _ _ _ r h (hi l) j).trans ?_
        rw [heads_hi]; unfold corr o2 cor
        simp only [bk1_at, bk2_at, x1_at, x2_at, ldX_at, col_at, ldA_at, ldB_at, ldW_at]
        simp only [show k0_pay2 (F := Ideal) = k0_pay1 from rfl, show k0_pay3 (F := Ideal) = k0_pay1 from rfl, show k0_pay4 (F := Ideal) = k0_pay1 from rfl, gainOf_at _ _ r h]
  | H2 h =>
    intro l
    rw [blk_v]
    refine (rowV_at _ _ _ _ _ _ _ _ _ _ _ _ h l j).trans ?_
    rw [ldY_at, ldD_at]

theorem add1_val (r : Fin 3) (h : Fin 8) (l : Fin 128) :
    (add1 (F := Ideal) (ldC arg12 X_arg12 k j) (ldS arg13 X_arg13 k j) (ldW arg16 X_arg16 k) (ldY arg1 X_arg1 k j) (ldX arg3 X_arg3 k j) r j (ix2 h l) : EReal)
      = v1 (arg1.view.read (Elt Ideal) X_arg1) (arg12.view.read (Elt Ideal) X_arg12) (arg13.view.read (Elt Ideal) X_arg13) (tok k (lt2 k) j) (hd r h) l * (arg3.view.read (Elt Ideal) X_arg3) (ix4 0 (tok k (lt2 k) j) (hd r h) (lo l)) * (arg16.view.read (Elt Ideal) X_arg16) (ix2 (hd r h) (tok k (lt2 k) j)) := by
  rw [add1_at, bk1_at, x1_at, ldX_at, col_at, ldW_at]
theorem add2_val (r : Fin 3) (h : Fin 8) (l : Fin 128) :
    (add2 (F := Ideal) (ldC arg12 X_arg12 k j) (ldS arg13 X_arg13 k j) (ldW arg16 X_arg16 k) (ldY arg1 X_arg1 k j) (ldX arg3 X_arg3 k j) r j (ix2 h l) : EReal)
      = v2 (arg1.view.read (Elt Ideal) X_arg1) (arg12.view.read (Elt Ideal) X_arg12) (arg13.view.read (Elt Ideal) X_arg13) (tok k (lt2 k) j) (hd r h) l * (arg3.view.read (Elt Ideal) X_arg3) (ix4 0 (tok k (lt2 k) j) (hd r h) (hi l)) * (arg16.view.read (Elt Ideal) X_arg16) (ix2 (hd r h) (tok k (lt2 k) j)) := by
  rw [add2_at, bk2_at, x2_at, ldX_at, col_at, ldW_at]
end Trip

variable (G9 : BufTy.Contents (Elt Ideal) arg9.view.ty) (G18 : BufTy.Contents (Elt Ideal) arg18.view.ty)

/-- Every store of the loop into the output is a part of the block. -/
theorem out_pieces : ∀ (n : ℕ), n ≤ 8 → ∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 G9 G18 n).1, ∀ x, (p.2 x : EReal) = blk (arg1.view.read (Elt Ideal) X_arg1) (arg3.view.read (Elt Ideal) X_arg3) (arg12.view.read (Elt Ideal) X_arg12) (arg13.view.read (Elt Ideal) X_arg13) (arg14.view.read (Elt Ideal) X_arg14) (arg15.view.read (Elt Ideal) X_arg15) (arg16.view.read (Elt Ideal) X_arg16) (arg17.view.read (Elt Ideal) X_arg17) (fun l => v117 (ix2 0 l)) (fun l => v119 (ix2 0 l)) (fun l => v121 (ix2 0 l)) (fun l => v123 (ix2 0 l)) (p.1.emb x)
  | 0, _, p, hp, x => absurd hp List.not_mem_nil
  | n + 1, hn, p, hp, x => by
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 G9 G18 ⟨n, by rw [trips2]; omega⟩
    rw [show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 G9 G18 (n + 1)) = _ from e, trip_out] at hp
    rcases List.mem_append.1 hp with h | h
    · simp only [List.mem_cons, List.not_mem_nil, or_false] at h
      rcases h with h | h | h | h | h | h | h | h | h | h | h | h | h | h | h | h <;> (subst h; exact piece_at (j := _) (x := _) ..)
    · exact out_pieces n (by omega) p h x

/-- What a trip adds to the sums. -/
def addT (k : Fin k0_t2_loop.trips) (p : Fin 4) : FVec Ideal S8x128 .f32 :=
  match p with
  | 0 => addQ1 arg1 arg3 arg12 arg13 arg16 X_arg1 X_arg3 X_arg12 X_arg13 X_arg16 k
  | 1 => addQ2 arg1 arg3 arg12 arg13 arg16 X_arg1 X_arg3 X_arg12 X_arg13 X_arg16 k
  | 2 => addK1 arg1 arg3 arg12 arg13 arg16 X_arg1 X_arg3 X_arg12 X_arg13 X_arg16 k
  | 3 => addK2 arg1 arg3 arg12 arg13 arg16 X_arg1 X_arg3 X_arg12 X_arg13 X_arg16 k

theorem addT_at (k : Fin k0_t2_loop.trips) (p : Fin 4) (s : Fin 8) (l : Fin 128) :
    (addT arg1 arg3 arg12 arg13 arg16 X_arg1 X_arg3 X_arg12 X_arg13 X_arg16 k p (ix2 s l) : EReal)
      = ∑ j : Fin 16, term (arg1.view.read (Elt Ideal) X_arg1) (arg3.view.read (Elt Ideal) X_arg3) (arg12.view.read (Elt Ideal) X_arg12) (arg13.view.read (Elt Ideal) X_arg13) (arg16.view.read (Elt Ideal) X_arg16) p (tok k (lt2 k) j) s l := by
  fin_cases p
  · refine (sum2_at _ _ s l).trans (Finset.sum_congr rfl fun j _ => ?_); rw [add1_val, add1_val]; rfl
  · refine (sum2_at _ _ s l).trans (Finset.sum_congr rfl fun j _ => ?_); rw [add2_val, add2_val]; rfl
  · refine (sum1_at _ s l).trans (Finset.sum_congr rfl fun j _ => ?_); rw [add1_val]; rfl
  · refine (sum1_at _ s l).trans (Finset.sum_congr rfl fun j _ => ?_); rw [add2_val]; rfl

/-- The rectangle of sum `p`. -/
theorem inb4 : ∀ (p : Fin 4) (a : Fin 3), ![p.val, 0, 0] a + S1x8x128.size a ≤ S4x8x128.size a := by decide
theorem emb4 (p : Fin 4) (x : S1x8x128.Idx) :
    (Rect.unit (s := S4x8x128) ![p.val, 0, 0] S1x8x128.size (inb4 p)).emb x = ix3 p (x 1) (x 2) := by
  funext a; refine Fin.ext ?_
  show ![p.val, 0, 0] a + 1 * _ = _
  have h0 : (x 0).val = 0 := by have : (x 0).val < 1 := (x 0).isLt; omega
  fin_cases a
  · simpa using h0
  · simp
  · simp

/-- The four stores of a trip add its four terms, whatever is in the buffer. -/
theorem acc_step (f : BufTy.Contents (Elt Ideal) arg18.view.ty) (g : Fin 4 → FVec Ideal S8x128 .f32) (p : Fin 4) (s : Fin 8) (l : Fin 128) :
    (arg18.view.read (Elt Ideal) (arg18.view.writes (Elt Ideal) f
      [⟨Rect.unit (s := S4x8x128) ![3, 0, 0] S1x8x128.size inb_S4x8x128_S1x8x128_3_0_0,
            k0_pay8 (g 3) (View.readAt (Elt Ideal) arg18.view (Rect.unit (s := S4x8x128) ![3, 0, 0] S1x8x128.size inb_S4x8x128_S1x8x128_3_0_0).toLoadRect f)⟩,
         ⟨Rect.unit (s := S4x8x128) ![2, 0, 0] S1x8x128.size inb_S4x8x128_S1x8x128_2_0_0,
            k0_pay7 (g 2) (View.readAt (Elt Ideal) arg18.view (Rect.unit (s := S4x8x128) ![2, 0, 0] S1x8x128.size inb_S4x8x128_S1x8x128_2_0_0).toLoadRect f)⟩,
         ⟨Rect.unit (s := S4x8x128) ![1, 0, 0] S1x8x128.size inb_S4x8x128_S1x8x128_1_0_0,
            k0_pay6 (g 1) (View.readAt (Elt Ideal) arg18.view (Rect.unit (s := S4x8x128) ![1, 0, 0] S1x8x128.size inb_S4x8x128_S1x8x128_1_0_0).toLoadRect f)⟩,
         ⟨Rect.unit (s := S4x8x128) ![0, 0, 0] S1x8x128.size inb_S4x8x128_S1x8x128_0_0_0,
            k0_pay5 (g 0) (View.readAt (Elt Ideal) arg18.view (Rect.unit (s := S4x8x128) ![0, 0, 0] S1x8x128.size inb_S4x8x128_S1x8x128_0_0_0).toLoadRect f)⟩])
      (ix3 p s l) : EReal) = arg18.view.read (Elt Ideal) f (ix3 p s l) + g p (ix2 s l) := by
  have key : ∀ (p : Fin 4) (x : S1x8x128.Idx),
      (k0_pay5 (g p) (View.readAt (Elt Ideal) arg18.view (Rect.unit (s := S4x8x128) ![p.val, 0, 0] S1x8x128.size (inb4 p)).toLoadRect f) x : EReal)
        = (fun y : S4x8x128.Idx => (arg18.view.read (Elt Ideal) f y + g (y 0) (ix2 (y 1) (y 2)) : EReal))
            ((Rect.unit (s := S4x8x128) ![p.val, 0, 0] S1x8x128.size (inb4 p)).emb x) := by
    intro p x
    have hx : x = ix3 0 (x 1) (x 2) := by
      funext a; refine Fin.ext ?_
      have h0 : (x 0).val = 0 := by have : (x 0).val < 1 := (x 0).isLt; omega
      fin_cases a
      · simpa using h0
      · rfl
      · rfl
    refine (congrArg (k0_pay5 (g p) _) hx).trans ?_
    refine (acc_at _ _ (x 1) (x 2)).trans ?_
    show (arg18.view.read (Elt Ideal) f ((Rect.unit (s := S4x8x128) ![p.val, 0, 0] S1x8x128.size (inb4 p)).emb (ix3 0 (x 1) (x 2))) + _ : EReal) = _
    rw [emb4, emb4]
    rfl
  refine View.read_writes_apply_of_pieces _ _ (fun y : S4x8x128.Idx => (arg18.view.read (Elt Ideal) f y + g (y 0) (ix2 (y 1) (y 2)) : EReal)) _ ?_ (ix3 p s l) ?_
  · intro q hq x
    simp only [List.mem_cons, List.not_mem_nil, or_false] at hq
    rcases hq with h | h | h | h <;> subst h
    · exact key 3 x
    · exact key 2 x
    · exact key 1 x
    · exact key 0 x
  · have hm : ∀ p : Fin 4, (ix3 p s l : S4x8x128.Idx) ∈ (Rect.unit (s := S4x8x128) ![p.val, 0, 0] S1x8x128.size (inb4 p)).set := by
      intro p
      have : (Rect.unit (s := S4x8x128) ![p.val, 0, 0] S1x8x128.size (inb4 p)).emb (ix3 0 s l) ∈ (Rect.unit (s := S4x8x128) ![p.val, 0, 0] S1x8x128.size (inb4 p)).set := by rw [← Rect.map_emb_univ]; exact Finset.mem_map_of_mem _ (Finset.mem_univ _)
      rwa [emb4] at this
    match p with
    | 0 => exact ⟨_, .tail _ (.tail _ (.tail _ (.head _))), hm 0⟩
    | 1 => exact ⟨_, .tail _ (.tail _ (.head _)), hm 1⟩
    | 2 => exact ⟨_, .tail _ (.head _), hm 2⟩
    | 3 => exact ⟨_, .head _, hm 3⟩

/-- After `n` trips each sum holds what it held plus the terms of the tokens of those trips. -/
theorem acc_read (p : Fin 4) (s : Fin 8) (l : Fin 128) : ∀ (n : ℕ) (hn : n ≤ 8),
    (arg18.view.read (Elt Ideal) (arg18.view.writes (Elt Ideal) G18 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 G9 G18 n).2) (ix3 p s l) : EReal)
      = arg18.view.read (Elt Ideal) G18 (ix3 p s l) + ∑ k : Fin n, ∑ j : Fin 16, term (arg1.view.read (Elt Ideal) X_arg1) (arg3.view.read (Elt Ideal) X_arg3) (arg12.view.read (Elt Ideal) X_arg12) (arg13.view.read (Elt Ideal) X_arg13) (arg16.view.read (Elt Ideal) X_arg16) p (tok k.val (by omega) j) s l
  | 0, _ => by
    show (arg18.view.read (Elt Ideal) G18 (ix3 p s l) : EReal) = _
    simp
  | n + 1, hn => by
    have ih := acc_read p s l n (by omega)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 G9 G18 ⟨n, by rw [trips2]; omega⟩
    rw [show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 G9 G18 (n + 1)) = _ from e, trip_acc, View.writes_append]
    refine (acc_step arg18 _ (addT arg1 arg3 arg12 arg13 arg16 X_arg1 X_arg3 X_arg12 X_arg13 X_arg16 ⟨n, by rw [trips2]; omega⟩) p s l).trans ?_
    rw [addT_at, ih, add_assoc]
    exact congrArg (_ + ·) (Fin.sum_univ_castSucc (fun k : Fin (n + 1) => ∑ j : Fin 16, term (arg1.view.read (Elt Ideal) X_arg1) (arg3.view.read (Elt Ideal) X_arg3) (arg12.view.read (Elt Ideal) X_arg12) (arg13.view.read (Elt Ideal) X_arg13) (arg16.view.read (Elt Ideal) X_arg16) p (tok k.val (by omega) j) s l)).symm

/-- Sixteen tokens in each of eight trips are all 128 tokens. -/
theorem sum_toks (f : Fin 128 → EReal) : ∑ k : Fin 8, ∑ j : Fin 16, f (tok k.val k.isLt j) = ∑ t : Fin 128, f t := by
  rw [← Finset.sum_product', ← Fintype.sum_equiv (finProdFinEquiv (m := 8) (n := 16)) (fun x => f (finProdFinEquiv x)) f (fun _ => rfl)]
  exact Finset.sum_congr rfl fun x _ => congrArg f (Fin.ext (by simp [tok, finProdFinEquiv]; omega))

theorem acc_all (p : Fin 4) (s : Fin 8) (l : Fin 128) :
    (arg18.view.read (Elt Ideal) (arg18.view.writes (Elt Ideal) G18 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v119 v121 v123 X_arg1 X_arg3 X_arg12 X_arg13 X_arg14 X_arg15 X_arg16 X_arg17 G9 G18 8).2) (ix3 p s l) : EReal)
      = arg18.view.read (Elt Ideal) G18 (ix3 p s l) + ∑ t : Fin 128, term (arg1.view.read (Elt Ideal) X_arg1) (arg3.view.read (Elt Ideal) X_arg3) (arg12.view.read (Elt Ideal) X_arg12) (arg13.view.read (Elt Ideal) X_arg13) (arg16.view.read (Elt Ideal) X_arg16) p t s l := by
  refine (acc_read (p := p) (s := s) (l := l) (n := 8) (hn := le_refl _) ..).trans ?_
  exact congrArg _ (sum_toks (fun t => term (arg1.view.read (Elt Ideal) X_arg1) (arg3.view.read (Elt Ideal) X_arg3) (arg12.view.read (Elt Ideal) X_arg12) (arg13.view.read (Elt Ideal) X_arg13) (arg16.view.read (Elt Ideal) X_arg16) p t s l))
end Loop

end Cert.KernelIdeal.Tok

end
-- ==== Proof.Body.lean ====
/- The body's stores at each grid point, in one vocabulary. -/
module

public import proofs.«01_k».proof.Proof.TokVal
public import proofs.«01_k».proof.Proof.KernelIdealFrame.Whole

@[expose] public section

set_option maxRecDepth 16384

noncomputable section

namespace Cert.KernelIdeal.Tok

open Cert.KernelIdeal Cert.KernelIdeal.Gen
open Idealize.ShloMosaic Idealize.ShloMosaic.TcCoe Idealize.SL.Sem

section
variable (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole)
variable (x0 : Vec Ideal S1x128x32x256 .fp8e5m2) (x1 : Vec Ideal S1x128x32 .f32) (x2 : Vec Ideal S1x128x24x256 .fp8e4m3) (x3 : Vec Ideal S1x128x24 .f32) (x4 : Vec Ideal S2x128 .f32) (x5 : Vec Ideal S2x128 .f32) (x6 : Vec Ideal S1x128 .i32) (x7 : Vec Ideal S1x128 .f32) (xs6 : Vec Ideal S4x8x128 .f32)

/-- The rows' sums of squares, as the first loop leaves them. -/
def msOf : FVec Ideal S24x128 .f32 := (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (k0_pay719 (View.readAt (Elt Ideal) arg4.view (Rect.unit ![0, 0, 0] S1x128x24.size inb_S1x128x24_S1x128x24_0_0_0).toLoadRect (harg4.unread x3))) (k0_pay720 (View.readAt (Elt Ideal) arg2.view (Rect.unit ![0, 0, 0] S1x128x32.size inb_S1x128x32_S1x128x32_0_0_0).toLoadRect (harg2.unread x1))) (iota .tc S24x128 32 [1] iota_S24x128_d1_w32) (harg3.unread x2) k0_pay722 (Scf.trips k0_t1_loop.lb k0_t1_loop.ub k0_t1_loop.st))

/-- The stores of the loop over tokens, from given contents of the four sums. -/
def res (G18 : BufTy.Contents (Elt Ideal) arg18.view.ty) : List (View.Piece (Elt Ideal) S1x128x32x256 .bf16) × List (View.Piece (Elt Ideal) S4x8x128 .f32) :=
  pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    (View.readAt (Elt Ideal) arg5.view (Rect.unit (s := S2x128) ![0, 0] S1x128.size inb_S2x128_S1x128_0_0).toLoadRect (harg5.unread x4))
    (View.readAt (Elt Ideal) arg5.view (Rect.unit (s := S2x128) ![1, 0] S1x128.size inb_S2x128_S1x128_1_0).toLoadRect (harg5.unread x4))
    (View.readAt (Elt Ideal) arg6.view (Rect.unit (s := S2x128) ![0, 0] S1x128.size inb_S2x128_S1x128_0_0).toLoadRect (harg6.unread x5))
    (View.readAt (Elt Ideal) arg6.view (Rect.unit (s := S2x128) ![1, 0] S1x128.size inb_S2x128_S1x128_1_0).toLoadRect (harg6.unread x5))
    (harg1.unread x0) (harg3.unread x2)
    (arg12.view.writes (Elt Ideal) arg12.view.junk [⟨Rect.unit ![0, 0] S128x128.size inb_S128x128_S128x128_0_0, k0_pay717 (k0_pay713 (View.readAt (Elt Ideal) arg7.view (Rect.unit ![0, 0] S1x128.size inb_S1x128_S1x128_0_0).toLoadRect (harg7.unread x6)) (View.readAt (Elt Ideal) arg8.view (Rect.unit ![0, 0] S1x128.size inb_S1x128_S1x128_0_0).toLoadRect (harg8.unread x7))) (k0_pay714 (View.readAt (Elt Ideal) arg7.view (Rect.unit ![0, 0] S1x128.size inb_S1x128_S1x128_0_0).toLoadRect (harg7.unread x6)) (View.readAt (Elt Ideal) arg8.view (Rect.unit ![0, 0] S1x128.size inb_S1x128_S1x128_0_0).toLoadRect (harg8.unread x7))) (k0_pay716 (View.readAt (Elt Ideal) arg7.view (Rect.unit ![0, 0] S1x128.size inb_S1x128_S1x128_0_0).toLoadRect (harg7.unread x6)) (View.readAt (Elt Ideal) arg8.view (Rect.unit ![0, 0] S1x128.size inb_S1x128_S1x128_0_0).toLoadRect (harg8.unread x7))) (FloatOps.ofBits .f32 3029594750#32)⟩])
    (arg13.view.writes (Elt Ideal) arg13.view.junk [⟨Rect.unit ![0, 0] S128x128.size inb_S128x128_S128x128_0_0, k0_pay718 (k0_pay713 (View.readAt (Elt Ideal) arg7.view (Rect.unit ![0, 0] S1x128.size inb_S1x128_S1x128_0_0).toLoadRect (harg7.unread x6)) (View.readAt (Elt Ideal) arg8.view (Rect.unit ![0, 0] S1x128.size inb_S1x128_S1x128_0_0).toLoadRect (harg8.unread x7))) (k0_pay715 (View.readAt (Elt Ideal) arg7.view (Rect.unit ![0, 0] S1x128.size inb_S1x128_S1x128_0_0).toLoadRect (harg7.unread x6)) (View.readAt (Elt Ideal) arg8.view (Rect.unit ![0, 0] S1x128.size inb_S1x128_S1x128_0_0).toLoadRect (harg8.unread x7)))⟩])
    (arg14.view.writes (Elt Ideal) arg14.view.junk [⟨Rect.unit ![0, 0] S24x128.size inb_S24x128_S24x128_0_0, k0_pay726 (k0_pay719 (View.readAt (Elt Ideal) arg4.view (Rect.unit ![0, 0, 0] S1x128x24.size inb_S1x128x24_S1x128x24_0_0_0).toLoadRect (harg4.unread x3))) (k0_pay720 (View.readAt (Elt Ideal) arg2.view (Rect.unit ![0, 0, 0] S1x128x32.size inb_S1x128x32_S1x128x32_0_0_0).toLoadRect (harg2.unread x1))) (msOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3)⟩])
    (arg15.view.writes (Elt Ideal) arg15.view.junk [⟨Rect.unit ![0, 0] S24x128.size inb_S24x128_S24x128_0_0, k0_pay728 (k0_pay719 (View.readAt (Elt Ideal) arg4.view (Rect.unit ![0, 0, 0] S1x128x24.size inb_S1x128x24_S1x128x24_0_0_0).toLoadRect (harg4.unread x3))) (msOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3)⟩])
    (arg16.view.writes (Elt Ideal) arg16.view.junk [⟨Rect.unit ![0, 0] S24x128.size inb_S24x128_S24x128_0_0, k0_pay727 (k0_pay719 (View.readAt (Elt Ideal) arg4.view (Rect.unit ![0, 0, 0] S1x128x24.size inb_S1x128x24_S1x128x24_0_0_0).toLoadRect (harg4.unread x3))) (k0_pay720 (View.readAt (Elt Ideal) arg2.view (Rect.unit ![0, 0, 0] S1x128x32.size inb_S1x128x32_S1x128x32_0_0_0).toLoadRect (harg2.unread x1))) (msOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3)⟩])
    (arg17.view.writes (Elt Ideal) arg17.view.junk [⟨Rect.unit ![0, 0] S8x128.size inb_S8x128_S8x128_0_0, k0_pay721 (k0_pay720 (View.readAt (Elt Ideal) arg2.view (Rect.unit ![0, 0, 0] S1x128x32.size inb_S1x128x32_S1x128x32_0_0_0).toLoadRect (harg2.unread x1)))⟩])
    arg9.view.junk G18 (Scf.trips k0_t2_loop.lb k0_t2_loop.ub k0_t2_loop.st)

/-- The four sums set to zero. -/
def zeros : List (View.Piece (Elt Ideal) S4x8x128 .f32) :=
  [⟨Rect.unit ![0, 0, 0] S4x8x128.size inb_S4x8x128_S4x8x128_0_0_0, k0_pay729 (F := Ideal)⟩]

/-- The two rows of a gain's gradient, from the sums `p` and `p'`. -/
def rowsOf (f : BufTy.Contents (Elt Ideal) arg18.view.ty) : List (View.Piece (Elt Ideal) S2x128 .f32) × List (View.Piece (Elt Ideal) S2x128 .f32) :=
  ([⟨Rect.unit (s := S2x128) ![1, 0] S1x128.size inb_S2x128_S1x128_1_0, k0_pay10 (View.readAt (Elt Ideal) arg18.view (Rect.unit (s := S4x8x128) ![1, 0, 0] S1x8x128.size inb_S4x8x128_S1x8x128_1_0_0).toLoadRect f)⟩,
    ⟨Rect.unit (s := S2x128) ![0, 0] S1x128.size inb_S2x128_S1x128_0_0, k0_pay9 (View.readAt (Elt Ideal) arg18.view (Rect.unit (s := S4x8x128) ![0, 0, 0] S1x8x128.size inb_S4x8x128_S1x8x128_0_0_0).toLoadRect f)⟩],
   [⟨Rect.unit (s := S2x128) ![1, 0] S1x128.size inb_S2x128_S1x128_1_0, k0_pay12 (View.readAt (Elt Ideal) arg18.view (Rect.unit (s := S4x8x128) ![3, 0, 0] S1x8x128.size inb_S4x8x128_S1x8x128_3_0_0).toLoadRect f)⟩,
    ⟨Rect.unit (s := S2x128) ![0, 0] S1x128.size inb_S2x128_S1x128_0_0, k0_pay11 (View.readAt (Elt Ideal) arg18.view (Rect.unit (s := S4x8x128) ![2, 0, 0] S1x8x128.size inb_S4x8x128_S1x8x128_2_0_0).toLoadRect f)⟩])

theorem runA_out (hc0 : cond0_0 i) (hc1 : ¬cond0_1 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1 = (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (arg18.view.writes (Elt Ideal) arg18.view.junk zeros)).1 := by
  unfold kernelRun0_A; rfl
theorem runA_acc (hc0 : cond0_0 i) (hc1 : ¬cond0_1 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1 = (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (arg18.view.writes (Elt Ideal) arg18.view.junk zeros)).2 ++ zeros := by
  unfold kernelRun0_A; rfl
theorem runB_out (hc0 : ¬cond0_0 i) (hc1 : ¬cond0_1 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1 = (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).1 := by
  unfold kernelRun0_B; rfl
theorem runB_acc (hc0 : ¬cond0_0 i) (hc1 : ¬cond0_1 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1 = (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).2 := by
  unfold kernelRun0_B; rfl
theorem runC_out (hc0 : ¬cond0_0 i) (hc1 : cond0_1 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).1 = (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).1 := by
  unfold kernelRun0_C; rfl
theorem runC_acc (hc0 : ¬cond0_0 i) (hc1 : cond0_1 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.2.1 = (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).2 := by
  unfold kernelRun0_C; rfl
theorem runC_9 (hc0 : ¬cond0_0 i) (hc1 : cond0_1 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.1
    = (rowsOf arg18 (arg18.view.writes (Elt Ideal) (harg18.unread xs6) (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).2)).1 := by
  unfold kernelRun0_C; rfl
theorem runC_10 (hc0 : ¬cond0_0 i) (hc1 : cond0_1 i) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6).2.2.1
    = (rowsOf arg18 (arg18.view.writes (Elt Ideal) (harg18.unread xs6) (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).2)).2 := by
  unfold kernelRun0_C; rfl
end

end Cert.KernelIdeal.Tok

end
-- ==== Proof.BodyVal.lean ====
/- The values of the body's stores at each grid point. -/
module

public import proofs.«01_k».proof.Proof.Body
public import Idealize.ShloMosaic.Lib.VecWindow

@[expose] public section

set_option maxRecDepth 16384

noncomputable section

namespace Cert.KernelIdeal.Tok

open Cert.KernelIdeal Cert.KernelIdeal.Gen
open Idealize.ShloMosaic Idealize.ShloMosaic.TcCoe Idealize.SL.Sem

/-- The sum of squares of head `h` at token `t`. -/
def sqOf (x2 : Vec Ideal S1x128x24x256 .fp8e4m3) (h : Fin 24) (t : Fin 128) : EReal :=
  ∑ i : Fin 128, ((x2 (ix4 0 t h (lo i)) : EReal) * x2 (ix4 0 t h (lo i)) + x2 (ix4 0 t h (hi i)) * x2 (ix4 0 t h (hi i)))
/-- The sums of squares of a step's rows. -/
def msv (x2 : Vec Ideal S1x128x24x256 .fp8e4m3) : FVec Ideal S24x128 .f32 := fun y => sqOf x2 (y 0) (y 1)
/-- The table of cosines of a step. -/
def cosT (x6 : Vec Ideal S1x128 .i32) (x7 : Vec Ideal S1x128 .f32) : FVec Ideal S128x128 .f32 :=
  k0_pay717 (k0_pay713 x6 x7) (k0_pay714 x6 x7) (k0_pay716 x6 x7) (FloatOps.ofBits .f32 3029594750#32)
/-- The table of sines of a step. -/
def sinT (x6 : Vec Ideal S1x128 .i32) (x7 : Vec Ideal S1x128 .f32) : FVec Ideal S128x128 .f32 :=
  k0_pay718 (k0_pay713 x6 x7) (k0_pay715 x6 x7)
/-- The factor of a row's direct term. -/
def wA (x1 : Vec Ideal S1x128x32 .f32) (x2 : Vec Ideal S1x128x24x256 .fp8e4m3) (x3 : Vec Ideal S1x128x24 .f32) : FVec Ideal S24x128 .f32 :=
  k0_pay726 (k0_pay719 x3) (k0_pay720 x1) (msv x2)
/-- The factor of a row's mean term. -/
def wB (x2 : Vec Ideal S1x128x24x256 .fp8e4m3) (x3 : Vec Ideal S1x128x24 .f32) : FVec Ideal S24x128 .f32 :=
  k0_pay728 (k0_pay719 x3) (msv x2)
/-- The weight of a row in the gains' gradients. -/
def wW (x1 : Vec Ideal S1x128x32 .f32) (x2 : Vec Ideal S1x128x24x256 .fp8e4m3) (x3 : Vec Ideal S1x128x24 .f32) : FVec Ideal S24x128 .f32 :=
  k0_pay727 (k0_pay719 x3) (k0_pay720 x1) (msv x2)
/-- The scales of the value rows. -/
def wD (x1 : Vec Ideal S1x128x32 .f32) : FVec Ideal S8x128 .f32 := k0_pay721 (k0_pay720 x1)

section
variable (c : Dev nD) (i : grid0.Coords) (arg1 : Memref sig .tc .vmem S1x128x32x256 .fp8e5m2) (harg1 : arg1.IsWhole) (arg2 : Memref sig .tc .vmem S1x128x32 .f32) (harg2 : arg2.IsWhole) (arg3 : Memref sig .tc .vmem S1x128x24x256 .fp8e4m3) (harg3 : arg3.IsWhole) (arg4 : Memref sig .tc .vmem S1x128x24 .f32) (harg4 : arg4.IsWhole) (arg5 : Memref sig .tc .vmem S2x128 .f32) (harg5 : arg5.IsWhole) (arg6 : Memref sig .tc .vmem S2x128 .f32) (harg6 : arg6.IsWhole) (arg7 : Memref sig .tc .vmem S1x128 .i32) (harg7 : arg7.IsWhole) (arg8 : Memref sig .tc .vmem S1x128 .f32) (harg8 : arg8.IsWhole) (arg9 : Memref sig .tc .vmem S1x128x32x256 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S24x128 .f32) (harg14 : arg14.IsWhole) (arg15 : Memref sig .tc .vmem S24x128 .f32) (harg15 : arg15.IsWhole) (arg16 : Memref sig .tc .vmem S24x128 .f32) (harg16 : arg16.IsWhole) (arg17 : Memref sig .tc .vmem S8x128 .f32) (harg17 : arg17.IsWhole) (arg18 : Memref sig .tc .vmem S4x8x128 .f32) (harg18 : arg18.IsWhole)
variable (x0 : Vec Ideal S1x128x32x256 .fp8e5m2) (x1 : Vec Ideal S1x128x32 .f32) (x2 : Vec Ideal S1x128x24x256 .fp8e4m3) (x3 : Vec Ideal S1x128x24 .f32) (x4 : Vec Ideal S2x128 .f32) (x5 : Vec Ideal S2x128 .f32) (x6 : Vec Ideal S1x128 .i32) (x7 : Vec Ideal S1x128 .f32) (xs6 : Vec Ideal S4x8x128 .f32)

theorem ldFull {κ sp s e} (m : Memref sig κ sp s e) (hm : m.IsWhole) (x : Vec Ideal s e) {off : Fin s.rank → ℕ} (inb : ∀ a, off a + s.size a ≤ s.size a) :
    View.readAt (Elt Ideal) m.view (Rect.unit off s.size inb).toLoadRect (hm.unread x) = x := by
  rw [View.readAt_full, hm.read_unread]

theorem st_at (v78 : FVec Ideal S24x128 .f32) (v81 : FVec Ideal S32x128 .f32) (h : Fin 24) (l : Fin 128) : ∀ n : ℕ, n ≤ 8 →
    (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v78 v81 (iota .tc S24x128 32 [1] iota_S24x128_d1_w32) (harg3.unread x2) k0_pay722 n (ix2 h l) : EReal)
      = if l.val < 16 * n then sqOf x2 h l else 0
  | 0, _ => by rw [if_neg (by omega)]; exact zero24_at (t := l) h
  | n + 1, hn => by
    have ih := st_at v78 v81 h l n (by omega)
    have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v78 v81 (iota .tc S24x128 32 [1] iota_S24x128_d1_w32) (harg3.unread x2) k0_pay722 ⟨n, by rw [trips1]; omega⟩
    refine (congrFun (e.trans (trip_sq ..)) (ix2 h l)).trans ?_
    rw [sqs_at n (by omega)]
    by_cases hl : 16 * n ≤ l.val ∧ l.val < 16 * n + 16
    · rw [dif_pos hl, if_pos (by omega)]
      unfold ssq sqOf
      refine Finset.sum_congr rfl fun k _ => ?_
      simp only [ldX1_at, harg3.read_unread]
      have et : tok n (by omega) ⟨l.val - 16 * n, by omega⟩ = l := by ext; simp [tok]; omega
      rw [et]
    · rw [dif_neg hl, ih]
      by_cases h2 : l.val < 16 * n
      · rw [if_pos h2, if_pos (by omega)]
      · rw [if_neg h2, if_neg (by omega)]

theorem msOf_eq : msOf c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 = msv x2 := by
  funext y
  obtain ⟨h, t, rfl⟩ : ∃ (h : Fin 24) (t : Fin 128), y = ix2 h t := ⟨y 0, y 1, (ix2_eta y).symm⟩
  refine (st_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 _ _ h t (Scf.trips k0_t1_loop.lb k0_t1_loop.ub k0_t1_loop.st) (by decide +kernel)).trans ?_
  rw [if_pos]
  · rfl
  · have : Scf.trips k0_t1_loop.lb k0_t1_loop.ub k0_t1_loop.st = 8 := by decide +kernel
    omega

theorem gainRow0 (m : Memref sig .tc .vmem S2x128 .f32) (hm : m.IsWhole) (x : Vec Ideal S2x128 .f32) (l : Fin 128) (inb) :
    (View.readAt (Elt Ideal) m.view (Rect.unit (s := S2x128) ![0, 0] S1x128.size inb).toLoadRect (hm.unread x) (ix2 0 l) : EReal) = x (ix2 0 l) := by
  refine (congrFun (hm.read_unread x) _).trans ?_
  refine congrArg x ?_
  funext a; refine Fin.ext ?_
  fin_cases a <;> simp
theorem gainRow1 (m : Memref sig .tc .vmem S2x128 .f32) (hm : m.IsWhole) (x : Vec Ideal S2x128 .f32) (l : Fin 128) (inb) :
    (View.readAt (Elt Ideal) m.view (Rect.unit (s := S2x128) ![1, 0] S1x128.size inb).toLoadRect (hm.unread x) (ix2 0 l) : EReal) = x (ix2 1 l) := by
  refine (congrFun (hm.read_unread x) _).trans ?_
  refine congrArg x ?_
  funext a; refine Fin.ext ?_
  fin_cases a <;> simp

theorem gainF0 (m : Memref sig .tc .vmem S2x128 .f32) (hm : m.IsWhole) (x : Vec Ideal S2x128 .f32) (inb) :
    (fun l : Fin 128 => (View.readAt (Elt Ideal) m.view (Rect.unit (s := S2x128) ![0, 0] S1x128.size inb).toLoadRect (hm.unread x) (ix2 0 l) : EReal)) = fun l => x (ix2 0 l) :=
  funext fun l => gainRow0 m hm x l inb
theorem gainF1 (m : Memref sig .tc .vmem S2x128 .f32) (hm : m.IsWhole) (x : Vec Ideal S2x128 .f32) (inb) :
    (fun l : Fin 128 => (View.readAt (Elt Ideal) m.view (Rect.unit (s := S2x128) ![1, 0] S1x128.size inb).toLoadRect (hm.unread x) (ix2 0 l) : EReal)) = fun l => x (ix2 1 l) :=
  funext fun l => gainRow1 m hm x l inb

theorem res_out (G18 : BufTy.Contents (Elt Ideal) arg18.view.ty) : ∀ p ∈ (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 G18).1, ∀ x, (p.2 x : EReal) = blk x0 x2 (cosT x6 x7) (sinT x6 x7) (wA x1 x2 x3) (wB x2 x3) (wW x1 x2 x3) (wD x1) (fun l => x4 (ix2 0 l)) (fun l => x4 (ix2 1 l)) (fun l => x5 (ix2 0 l)) (fun l => x5 (ix2 1 l)) (p.1.emb x) := by
  intro p hp x
  have h := out_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ _ _ _ _ G18 (Scf.trips k0_t2_loop.lb k0_t2_loop.ub k0_t2_loop.st) (by decide +kernel) p hp x
  rw [h, harg1.read_unread, harg3.read_unread]
  rw [View.read_writes_full arg12.view, View.read_writes_full arg13.view, View.read_writes_full arg14.view, View.read_writes_full arg15.view, View.read_writes_full arg16.view, View.read_writes_full arg17.view,
    ldFull arg2, ldFull arg4, ldFull arg7, ldFull arg8, msOf_eq, gainF0 arg5, gainF1 arg5, gainF0 arg6, gainF1 arg6]
  rfl

theorem res_acc (G18 : BufTy.Contents (Elt Ideal) arg18.view.ty) (p : Fin 4) (s : Fin 8) (l : Fin 128) :
    (arg18.view.read (Elt Ideal) (arg18.view.writes (Elt Ideal) G18 (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 G18).2) (ix3 p s l) : EReal)
      = arg18.view.read (Elt Ideal) G18 (ix3 p s l) + ∑ t : Fin 128, (term x0 x2 (cosT x6 x7) (sinT x6 x7) (wW x1 x2 x3) p t s l) := by
  refine (acc_all Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ _ _ _ _ G18 p s l).trans ?_
  rw [harg1.read_unread, harg3.read_unread]
  rw [View.read_writes_full arg12.view, View.read_writes_full arg13.view, View.read_writes_full arg16.view, ldFull arg2, ldFull arg4, ldFull arg7, ldFull arg8, msOf_eq]
  rfl

theorem outA_8 (hc0 : cond0_0 i) (hc1 : ¬cond0_1 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = blk x0 x2 (cosT x6 x7) (sinT x6 x7) (wA x1 x2 x3) (wB x2 x3) (wW x1 x2 x3) (wD x1) (fun l => x4 (ix2 0 l)) (fun l => x4 (ix2 1 l)) (fun l => x5 (ix2 0 l)) (fun l => x5 (ix2 1 l)) := by
  funext y
  unfold out0_A_8
  refine View.read_writes_apply_of_pieces _ _ (blk x0 x2 (cosT x6 x7) (sinT x6 x7) (wA x1 x2 x3) (wB x2 x3) (wW x1 x2 x3) (wD x1) (fun l => x4 (ix2 0 l)) (fun l => x4 (ix2 1 l)) (fun l => x5 (ix2 0 l)) (fun l => x5 (ix2 1 l))) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 y)
  rw [runA_out]
  exact res_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 _

theorem soutA_6 (hc0 : cond0_0 i) (hc1 : ¬cond0_1 i) (p : Fin 4) (s : Fin 8) (l : Fin 128) : (sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 (ix3 p s l) : EReal)
    = 0 + ∑ t : Fin 128, (term x0 x2 (cosT x6 x7) (sinT x6 x7) (wW x1 x2 x3) p t s l) := by
  unfold sout0_A_6
  rw [View.read_writes_of_cover VS0_6 _ arg18.view arg18.view.junk _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7), runA_acc, View.writes_append, res_acc]
  unfold zeros
  rw [View.read_writes_full, zero4_at]
theorem outB_8 (hc0 : ¬cond0_0 i) (hc1 : ¬cond0_1 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 = blk x0 x2 (cosT x6 x7) (sinT x6 x7) (wA x1 x2 x3) (wB x2 x3) (wW x1 x2 x3) (wD x1) (fun l => x4 (ix2 0 l)) (fun l => x4 (ix2 1 l)) (fun l => x5 (ix2 0 l)) (fun l => x5 (ix2 1 l)) := by
  funext y
  unfold out0_B_8
  refine View.read_writes_apply_of_pieces _ _ (blk x0 x2 (cosT x6 x7) (sinT x6 x7) (wA x1 x2 x3) (wB x2 x3) (wW x1 x2 x3) (wD x1) (fun l => x4 (ix2 0 l)) (fun l => x4 (ix2 1 l)) (fun l => x5 (ix2 0 l)) (fun l => x5 (ix2 1 l))) _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 y)
  rw [runB_out]
  exact res_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 _

theorem soutB_6 (hc0 : ¬cond0_0 i) (hc1 : ¬cond0_1 i) (p : Fin 4) (s : Fin 8) (l : Fin 128) : (sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 (ix3 p s l) : EReal)
    = xs6 (ix3 p s l) + ∑ t : Fin 128, (term x0 x2 (cosT x6 x7) (sinT x6 x7) (wW x1 x2 x3) p t s l) := by
  unfold sout0_B_6
  rw [View.read_writes_of_cover VS0_6 _ arg18.view (harg18.unread xs6) _ (scover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6), runB_acc, res_acc]
  rw [harg18.read_unread]
theorem outC_8 (hc0 : ¬cond0_0 i) (hc1 : cond0_1 i) : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 = blk x0 x2 (cosT x6 x7) (sinT x6 x7) (wA x1 x2 x3) (wB x2 x3) (wW x1 x2 x3) (wD x1) (fun l => x4 (ix2 0 l)) (fun l => x4 (ix2 1 l)) (fun l => x5 (ix2 0 l)) (fun l => x5 (ix2 1 l)) := by
  funext y
  unfold out0_C_8
  refine View.read_writes_apply_of_pieces _ _ (blk x0 x2 (cosT x6 x7) (sinT x6 x7) (wA x1 x2 x3) (wB x2 x3) (wW x1 x2 x3) (wD x1) (fun l => x4 (ix2 0 l)) (fun l => x4 (ix2 1 l)) (fun l => x5 (ix2 0 l)) (fun l => x5 (ix2 1 l))) _ ?_ y (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 y)
  rw [runC_out]
  exact res_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 _

theorem soutC_6 (hc0 : ¬cond0_0 i) (hc1 : cond0_1 i) (p : Fin 4) (s : Fin 8) (l : Fin 128) : (sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 (ix3 p s l) : EReal)
    = xs6 (ix3 p s l) + ∑ t : Fin 128, (term x0 x2 (cosT x6 x7) (sinT x6 x7) (wW x1 x2 x3) p t s l) := by
  unfold sout0_C_6
  rw [View.read_writes_of_cover VS0_6 _ arg18.view (harg18.unread xs6) _ (scover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6), runC_acc, res_acc]
  rw [harg18.read_unread]

theorem accRow (f : BufTy.Contents (Elt Ideal) arg18.view.ty) (p : Fin 4) (s : Fin 8) (l : Fin 128)
    (inb : ∀ a, (![p.val, 0, 0] : Fin 3 → ℕ) a + S1x8x128.size a ≤ S4x8x128.size a) :
    (View.readAt (Elt Ideal) arg18.view (Rect.unit (s := S4x8x128) ![p.val, 0, 0] S1x8x128.size inb).toLoadRect f (ix3 0 s l) : EReal)
      = arg18.view.read (Elt Ideal) f (ix3 p s l) := by
  refine congrArg (arg18.view.read (Elt Ideal) f) ?_
  funext a; refine Fin.ext ?_
  fin_cases a <;> simp

/-- The sums that close a gain's gradient: over the sublanes of what the scratch holds at the end. -/
def fin (p : Fin 2 → Fin 4) : S2x128.Idx → EReal := fun y =>
  ∑ s : Fin 8, ((xs6 (ix3 (p (y 0)) s (y 1)) : EReal) + ∑ t : Fin 128, (term x0 x2 (cosT x6 x7) (sinT x6 x7) (wW x1 x2 x3) (p (y 0)) t s (y 1)))

theorem fin_row (p : Fin 2 → Fin 4) (r : Fin 2) (l : Fin 128) (y : S2x128.Idx) (hy : y = ix2 r l) :
    fin x0 x1 x2 x3 x6 x7 xs6 p y = ∑ s : Fin 8, ((xs6 (ix3 (p r) s l) : EReal) + ∑ t : Fin 128, (term x0 x2 (cosT x6 x7) (sinT x6 x7) (wW x1 x2 x3) (p r) t s l)) := by
  subst hy; rfl

theorem row1 (x : S1x128.Idx) : ∃ l : Fin 128, x = ix2 0 l :=
  ⟨x 1, funext fun a => by fin_cases a; exact Subsingleton.elim (α := Fin 1) _ _; rfl⟩

theorem emb2 (r : Fin 2) (l : Fin 128) (inb : ∀ a, (![r.val, 0] : Fin 2 → ℕ) a + S1x128.size a ≤ S2x128.size a) :
    (Rect.unit (s := S2x128) ![r.val, 0] S1x128.size inb).emb (ix2 0 l) = ix2 r l := by
  funext a; refine Fin.ext ?_
  fin_cases a <;> simp

theorem outC_9 (hc0 : ¬cond0_0 i) (hc1 : cond0_1 i) : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 = fin x0 x1 x2 x3 x6 x7 xs6 ![0, 1] := by
  funext y
  unfold out0_C_9
  refine View.read_writes_apply_of_pieces _ _ (fin x0 x1 x2 x3 x6 x7 xs6 ![0, 1]) _ ?_ y (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 y)
  rw [runC_9]
  have key : ∀ (q : Fin 4) (l : Fin 128) (inb : ∀ a, (![q.val, 0, 0] : Fin 3 → ℕ) a + S1x8x128.size a ≤ S4x8x128.size a),
      (k0_pay9 (F := Ideal) (View.readAt (Elt Ideal) arg18.view (Rect.unit (s := S4x8x128) ![q.val, 0, 0] S1x8x128.size inb).toLoadRect (arg18.view.writes (Elt Ideal) (harg18.unread xs6) (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).2)) (ix2 0 l) : EReal)
        = ∑ s : Fin 8, ((xs6 (ix3 q s l) : EReal) + ∑ t : Fin 128, (term x0 x2 (cosT x6 x7) (sinT x6 x7) (wW x1 x2 x3) q t s l)) := by
    intro q l inb
    rw [sub_at]
    refine Finset.sum_congr rfl fun s _ => ?_
    rw [accRow, res_acc, harg18.read_unread]
  intro pc hpc
  unfold rowsOf at hpc
  simp only [List.mem_cons, List.not_mem_nil, or_false] at hpc
  rcases hpc with rfl | rfl
  · intro x
    obtain ⟨l, rfl⟩ : ∃ l : Fin 128, x = ix2 0 l := row1 x
    refine (key 1 l inb_S4x8x128_S1x8x128_1_0_0).trans ?_
    exact (fin_row x0 x1 x2 x3 x6 x7 xs6 ![0, 1] 1 l _ (emb2 1 l inb_S2x128_S1x128_1_0)).symm
  · intro x
    obtain ⟨l, rfl⟩ : ∃ l : Fin 128, x = ix2 0 l := row1 x
    refine (key 0 l inb_S4x8x128_S1x8x128_0_0_0).trans ?_
    exact (fin_row x0 x1 x2 x3 x6 x7 xs6 ![0, 1] 0 l _ (emb2 0 l inb_S2x128_S1x128_0_0)).symm

theorem outC_10 (hc0 : ¬cond0_0 i) (hc1 : cond0_1 i) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 = fin x0 x1 x2 x3 x6 x7 xs6 ![2, 3] := by
  funext y
  unfold out0_C_10
  refine View.read_writes_apply_of_pieces _ _ (fin x0 x1 x2 x3 x6 x7 xs6 ![2, 3]) _ ?_ y (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs6 y)
  rw [runC_10]
  have key : ∀ (q : Fin 4) (l : Fin 128) (inb : ∀ a, (![q.val, 0, 0] : Fin 3 → ℕ) a + S1x8x128.size a ≤ S4x8x128.size a),
      (k0_pay9 (F := Ideal) (View.readAt (Elt Ideal) arg18.view (Rect.unit (s := S4x8x128) ![q.val, 0, 0] S1x8x128.size inb).toLoadRect (arg18.view.writes (Elt Ideal) (harg18.unread xs6) (res c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 (harg18.unread xs6)).2)) (ix2 0 l) : EReal)
        = ∑ s : Fin 8, ((xs6 (ix3 q s l) : EReal) + ∑ t : Fin 128, (term x0 x2 (cosT x6 x7) (sinT x6 x7) (wW x1 x2 x3) q t s l)) := by
    intro q l inb
    rw [sub_at]
    refine Finset.sum_congr rfl fun s _ => ?_
    rw [accRow, res_acc, harg18.read_unread]
  intro pc hpc
  unfold rowsOf at hpc
  simp only [List.mem_cons, List.not_mem_nil, or_false] at hpc
  rcases hpc with rfl | rfl
  · intro x
    obtain ⟨l, rfl⟩ : ∃ l : Fin 128, x = ix2 0 l := row1 x
    refine (key 3 l inb_S4x8x128_S1x8x128_3_0_0).trans ?_
    exact (fin_row x0 x1 x2 x3 x6 x7 xs6 ![2, 3] 1 l _ (emb2 1 l inb_S2x128_S1x128_1_0)).symm
  · intro x
    obtain ⟨l, rfl⟩ : ∃ l : Fin 128, x = ix2 0 l := row1 x
    refine (key 2 l inb_S4x8x128_S1x8x128_2_0_0).trans ?_
    exact (fin_row x0 x1 x2 x3 x6 x7 xs6 ![2, 3] 0 l _ (emb2 0 l inb_S2x128_S1x128_0_0)).symm

end

end Cert.KernelIdeal.Tok

end
-- ==== Proof.Blocks.lean ====
/- The windows' blocks of the grid, read off the arrays. -/
module

public import proofs.«01_k».proof.Proof.Grid
public import proofs.«01_k».proof.Proof.BodyVal
public import Idealize.ShloMosaic.Lib.Pipeline.ValueKit

@[expose] public section

set_option maxRecDepth 16384

noncomputable section

namespace Cert.KernelIdeal.Tok

open Cert.KernelIdeal Cert.KernelIdeal.Gen
open Idealize.ShloMosaic Idealize.ShloMosaic.TcCoe Idealize.SL.Sem

variable (m : (ℓ : Loc nD τ sig) → Buf (Elt Ideal) ℓ) (c : Dev nD)

theorem n16 : cfg0.N = 16 := N_0
/-- Token `tt` of step `t`. -/
def tk (t : Fin cfg0.N) (tt : Fin 128) : Fin 2048 := ⟨128 * t.val + tt.val, by have := lt_of_lt_of_eq t.isLt n16; have := tt.isLt; omega⟩

theorem idx0 : ∀ t : Fin cfg0.N, win0_0.index t = ![0, t.val, 0, 0] := by decide +kernel
theorem idx1 : ∀ t : Fin cfg0.N, win0_1.index t = ![0, t.val, 0] := by decide +kernel
theorem idx2 : ∀ t : Fin cfg0.N, win0_2.index t = ![0, t.val, 0, 0] := by decide +kernel
theorem idx3 : ∀ t : Fin cfg0.N, win0_3.index t = ![0, t.val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, t.val] := by decide +kernel
theorem idx7 : ∀ t : Fin cfg0.N, win0_7.index t = ![0, 0] := by decide +kernel

theorem iblk0_at (t : Fin cfg0.N) (tt : Fin 128) (h : Fin 32) (l : Fin 256) :
    (iblk m c 0 t (ix4 0 tt h l) : EReal) = m ((c : Thread nD τ).loc main_arg0) (ix4 0 (tk t tt) h l) := by
  show V m c main_arg0 (((cfg0.win 0).blk t).view.emb (ix4 0 tt h l)) = _
  rw [V_main_arg0 m c]; refine congrArg (m ((c : Thread nD τ).loc main_arg0)) ?_
  funext a; apply Fin.ext
  match a with
  | ⟨0, _⟩ => show win0_0.index t (0 : Fin 4) * 1 + 1 * 0 = 0; rw [idx0 t]; show 0 * 1 + 1 * 0 = 0; omega
  | ⟨1, _⟩ => show win0_0.index t (1 : Fin 4) * 128 + 1 * tt.val = 128 * t.val + tt.val; rw [idx0 t]; show t.val * 128 + 1 * tt.val = 128 * t.val + tt.val; omega
  | ⟨2, _⟩ => show win0_0.index t (2 : Fin 4) * 32 + 1 * h.val = h.val; rw [idx0 t]; show 0 * 32 + 1 * h.val = h.val; omega
  | ⟨3, _⟩ => show win0_0.index t (3 : Fin 4) * 256 + 1 * l.val = l.val; rw [idx0 t]; show 0 * 256 + 1 * l.val = l.val; omega
theorem iblk1_at (t : Fin cfg0.N) (tt : Fin 128) (h : Fin 32) :
    (iblk m c 1 t (ix3 0 tt h) : EReal) = m ((c : Thread nD τ).loc main_arg1) (ix3 0 (tk t tt) h) := by
  show V m c main_arg1 (((cfg0.win 1).blk t).view.emb (ix3 0 tt h)) = _
  rw [V_main_arg1 m c]; refine congrArg (m ((c : Thread nD τ).loc main_arg1)) ?_
  funext a; apply Fin.ext
  match a with
  | ⟨0, _⟩ => show win0_1.index t (0 : Fin 3) * 1 + 1 * 0 = 0; rw [idx1 t]; show 0 * 1 + 1 * 0 = 0; omega
  | ⟨1, _⟩ => show win0_1.index t (1 : Fin 3) * 128 + 1 * tt.val = 128 * t.val + tt.val; rw [idx1 t]; show t.val * 128 + 1 * tt.val = 128 * t.val + tt.val; omega
  | ⟨2, _⟩ => show win0_1.index t (2 : Fin 3) * 32 + 1 * h.val = h.val; rw [idx1 t]; show 0 * 32 + 1 * h.val = h.val; omega
theorem iblk2_at (t : Fin cfg0.N) (tt : Fin 128) (h : Fin 24) (l : Fin 256) :
    (iblk m c 2 t (ix4 0 tt h l) : EReal) = m ((c : Thread nD τ).loc main_arg2) (ix4 0 (tk t tt) h l) := by
  show V m c main_arg2 (((cfg0.win 2).blk t).view.emb (ix4 0 tt h l)) = _
  rw [V_main_arg2 m c]; refine congrArg (m ((c : Thread nD τ).loc main_arg2)) ?_
  funext a; apply Fin.ext
  match a with
  | ⟨0, _⟩ => show win0_2.index t (0 : Fin 4) * 1 + 1 * 0 = 0; rw [idx2 t]; show 0 * 1 + 1 * 0 = 0; omega
  | ⟨1, _⟩ => show win0_2.index t (1 : Fin 4) * 128 + 1 * tt.val = 128 * t.val + tt.val; rw [idx2 t]; show t.val * 128 + 1 * tt.val = 128 * t.val + tt.val; omega
  | ⟨2, _⟩ => show win0_2.index t (2 : Fin 4) * 24 + 1 * h.val = h.val; rw [idx2 t]; show 0 * 24 + 1 * h.val = h.val; omega
  | ⟨3, _⟩ => show win0_2.index t (3 : Fin 4) * 256 + 1 * l.val = l.val; rw [idx2 t]; show 0 * 256 + 1 * l.val = l.val; omega
theorem iblk3_at (t : Fin cfg0.N) (tt : Fin 128) (h : Fin 24) :
    (iblk m c 3 t (ix3 0 tt h) : EReal) = m ((c : Thread nD τ).loc main_arg3) (ix3 0 (tk t tt) h) := by
  show V m c main_arg3 (((cfg0.win 3).blk t).view.emb (ix3 0 tt h)) = _
  rw [V_main_arg3 m c]; refine congrArg (m ((c : Thread nD τ).loc main_arg3)) ?_
  funext a; apply Fin.ext
  match a with
  | ⟨0, _⟩ => show win0_3.index t (0 : Fin 3) * 1 + 1 * 0 = 0; rw [idx3 t]; show 0 * 1 + 1 * 0 = 0; omega
  | ⟨1, _⟩ => show win0_3.index t (1 : Fin 3) * 128 + 1 * tt.val = 128 * t.val + tt.val; rw [idx3 t]; show t.val * 128 + 1 * tt.val = 128 * t.val + tt.val; omega
  | ⟨2, _⟩ => show win0_3.index t (2 : Fin 3) * 24 + 1 * h.val = h.val; rw [idx3 t]; show 0 * 24 + 1 * h.val = h.val; omega
theorem iblk6_at (t : Fin cfg0.N) (tt : Fin 128) :
    (iblk m c 6 t (ix2 0 tt) : BitVec 32) = m ((c : Thread nD τ).loc main_arg6) (ix2 0 (tk t tt)) := by
  show V m c main_arg6 (((cfg0.win 6).blk t).view.emb (ix2 0 tt)) = _
  rw [V_main_arg6 m c]; refine congrArg (m ((c : Thread nD τ).loc main_arg6)) ?_
  funext a; apply Fin.ext
  match a with
  | ⟨0, _⟩ => show win0_6.index t (0 : Fin 2) * 1 + 1 * 0 = 0; rw [idx6 t]; show 0 * 1 + 1 * 0 = 0; omega
  | ⟨1, _⟩ => show win0_6.index t (1 : Fin 2) * 128 + 1 * tt.val = 128 * t.val + tt.val; rw [idx6 t]; show t.val * 128 + 1 * tt.val = 128 * t.val + tt.val; omega
theorem iblk4_V (t : Fin cfg0.N) (r : Fin 2) (l : Fin 128) :
    (iblk m c 4 t (ix2 r l) : EReal) = V m c main_v9 (ix2 r l) := by
  show V m c main_v9 (((cfg0.win 4).blk t).view.emb (ix2 r l)) = _
  refine congrArg (V m c main_v9) ?_
  funext a; apply Fin.ext
  match a with
  | ⟨0, _⟩ => show win0_4.index t (0 : Fin 2) * 2 + 1 * r.val = r.val; rw [idx4 t]; show 0 * 2 + 1 * r.val = r.val; omega
  | ⟨1, _⟩ => show win0_4.index t (1 : Fin 2) * 128 + 1 * l.val = l.val; rw [idx4 t]; show 0 * 128 + 1 * l.val = l.val; omega
theorem iblk5_V (t : Fin cfg0.N) (r : Fin 2) (l : Fin 128) :
    (iblk m c 5 t (ix2 r l) : EReal) = V m c main_v10 (ix2 r l) := by
  show V m c main_v10 (((cfg0.win 5).blk t).view.emb (ix2 r l)) = _
  refine congrArg (V m c main_v10) ?_
  funext a; apply Fin.ext
  match a with
  | ⟨0, _⟩ => show win0_5.index t (0 : Fin 2) * 2 + 1 * r.val = r.val; rw [idx5 t]; show 0 * 2 + 1 * r.val = r.val; omega
  | ⟨1, _⟩ => show win0_5.index t (1 : Fin 2) * 128 + 1 * l.val = l.val; rw [idx5 t]; show 0 * 128 + 1 * l.val = l.val; omega
theorem iblk7_V (t : Fin cfg0.N) (l : Fin 128) :
    (iblk m c 7 t (ix2 0 l) : EReal) = V m c main_v8 (ix2 0 l) := by
  show V m c main_v8 (((cfg0.win 7).blk t).view.emb (ix2 0 l)) = _
  refine congrArg (V m c main_v8) ?_
  funext a; apply Fin.ext
  match a with
  | ⟨0, _⟩ => show win0_7.index t (0 : Fin 2) * 1 + 1 * 0 = 0; rw [idx7 t]; show 0 * 1 + 1 * 0 = 0; omega
  | ⟨1, _⟩ => show win0_7.index t (1 : Fin 2) * 128 + 1 * l.val = l.val; rw [idx7 t]; show 0 * 128 + 1 * l.val = l.val; omega
/-- The frequency of lane `l`. -/
def fq (l : Fin 128) : EReal := Ideal.pow (Ideal.ofBits .f32 0x49742400#32)
  (-(Ideal.div (Ideal.ofBits .f32 0x40000000#32 * FloatOps.sitofp (F := Ideal) .f32 (BitVec.ofNat 32 l.val)) (Ideal.ofBits .f32 0x43800000#32)))
theorem V8_at (l : Fin 128) : (V m c main_v8 (ix2 0 l) : EReal) = fq l := by
  unfold fq
  entry_read
  pointwise
theorem V9_at (r : Fin 2) (l : Fin 128) :
    (V m c main_v9 (ix2 r l) : EReal) = m ((c : Thread nD τ).loc main_arg4) (ix1 ⟨r.val * 128 + l.val, by omega⟩) := by
  entry_read
  pointwise
theorem V10_at (r : Fin 2) (l : Fin 128) :
    (V m c main_v10 (ix2 r l) : EReal) = m ((c : Thread nD τ).loc main_arg5) (ix1 ⟨r.val * 128 + l.val, by omega⟩) := by
  entry_read
  pointwise

end Cert.KernelIdeal.Tok

end
-- ==== Proof.KGrid.lean ====
/- The kernel's three results, as sums and products over the whole arrays' blocks. -/
module

public import proofs.«01_k».proof.Proof.Blocks

@[expose] public section

noncomputable section

namespace Cert.KernelIdeal.Tok

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)

/-- What step `t` writes to its block of the first result. -/
def outB (t : Fin cfg0.N) : S1x128x32x256.Idx → EReal :=
  blk (iblk m c 0 t) (iblk m c 2 t) (cosT (iblk m c 6 t) (iblk m c 7 t)) (sinT (iblk m c 6 t) (iblk m c 7 t))
    (wA (iblk m c 1 t) (iblk m c 2 t) (iblk m c 3 t)) (wB (iblk m c 2 t) (iblk m c 3 t)) (wW (iblk m c 1 t) (iblk m c 2 t) (iblk m c 3 t)) (wD (iblk m c 1 t))
    (fun l => iblk m c 4 t (ix2 0 l)) (fun l => iblk m c 4 t (ix2 1 l)) (fun l => iblk m c 5 t (ix2 0 l)) (fun l => iblk m c 5 t (ix2 1 l))

/-- What token `tt` of step `t` adds to sum `p` in sublane `s`. -/
def tm (t : Fin cfg0.N) (p : Fin 4) (tt : Fin 128) (s : Fin 8) (l : Fin 128) : EReal :=
  term (iblk m c 0 t) (iblk m c 2 t) (cosT (iblk m c 6 t) (iblk m c 7 t)) (sinT (iblk m c 6 t) (iblk m c 7 t)) (wW (iblk m c 1 t) (iblk m c 2 t) (iblk m c 3 t)) p tt s l

theorem out_pt (t : Fin cfg0.N) : (outsAt0 m c t.val t.isLt).1 = outB m c t := by
  by_cases h0 : t.val % 16 = 0
  · have h1 : ¬ t.val % 16 = 15 := by omega
    rw [outsAt0_A m c t h0 h1]
    exact outA_8 ..
  · by_cases h1 : t.val % 16 = 15
    · rw [outsAt0_C m c t h0 h1]
      exact outC_8 ..
    · rw [outsAt0_B m c t h0 h1]
      exact outB_8 ..

theorem acc_pt (p : Fin 4) (s : Fin 8) (l : Fin 128) : ∀ (n : ℕ) (hn : n < cfg0.N),
    ((outsAt0 m c n hn).2.2.2 (ix3 p s l) : EReal) = ∑ k : Fin (n + 1), ∑ tt : Fin 128, tm m c ⟨k.val, by omega⟩ p tt s l
  | 0, hn => by
    rw [outsAt0_A m c ⟨0, hn⟩ (by show 0 % 16 = 0; rfl) (by show ¬ 0 % 16 = 15; decide)]
    refine (soutA_6 (p := p) (s := s) (l := l) ..).trans ?_
    rw [zero_add, Fin.sum_univ_one]
    rfl
  | n + 1, hn => by
    have ih := acc_pt p s l n (by omega)
    have h16 : n + 1 < 16 := lt_of_lt_of_eq hn n16
    rw [Fin.sum_univ_castSucc]
    by_cases h1 : (n + 1) % 16 = 15
    · rw [outsAt0_C m c ⟨n + 1, hn⟩ (by show ¬ (n + 1) % 16 = 0; omega) h1]
      refine (soutC_6 (p := p) (s := s) (l := l) ..).trans ?_
      exact congrArg (· + _) ih
    · rw [outsAt0_B m c ⟨n + 1, hn⟩ (by show ¬ (n + 1) % 16 = 0; omega) h1]
      refine (soutB_6 (p := p) (s := s) (l := l) ..).trans ?_
      exact congrArg (· + _) ih

/-- A gain's gradient: row `r` is sum `p r`, added over the sublanes, the steps and their tokens. -/
def grad (p : Fin 2 → Fin 4) : S2x128.Idx → EReal := fun y =>
  ∑ s : Fin 8, ∑ k : Fin cfg0.N, ∑ tt : Fin 128, tm m c k (p (y 0)) tt s (y 1)

theorem sum_cast (N M : ℕ) (e : N = M) (f : Fin N → EReal) : ∑ k, f k = ∑ k : Fin M, f ⟨k.val, e ▸ k.isLt⟩ := by
  subst e; rfl

theorem fin_eq (p : Fin 2 → Fin 4) (n : ℕ) (hn : n = 14) (h : n + 1 < cfg0.N) :
    fin (iblk m c 0 ⟨n + 1, h⟩) (iblk m c 1 ⟨n + 1, h⟩) (iblk m c 2 ⟨n + 1, h⟩) (iblk m c 3 ⟨n + 1, h⟩) (iblk m c 6 ⟨n + 1, h⟩) (iblk m c 7 ⟨n + 1, h⟩)
      (outsAt0 m c n (by omega)).2.2.2 p = grad m c p := by
  have e : cfg0.N = n + 1 + 1 := by rw [n16, hn]
  funext y
  refine Finset.sum_congr rfl fun s _ => ?_
  refine (congrArg (· + _) (acc_pt m c (p (y 0)) s (y 1) n (by omega))).trans ?_
  refine Eq.trans ?_ (sum_cast _ _ e _).symm
  refine Eq.trans ?_ (Fin.sum_univ_castSucc (n := n + 1) _).symm
  rfl

theorem g9_last (n : ℕ) (hn : n = 14) (h : n + 1 < cfg0.N) : (outsAt0 m c (n + 1) h).2.1 = grad m c ![0, 1] := by
  rw [outsAt0_C m c ⟨n + 1, h⟩ (by show ¬ (n + 1) % 16 = 0; omega) (by show (n + 1) % 16 = 15; omega)]
  rw [← fin_eq m c ![0, 1] n hn h]
  exact outC_9 (hc0 := fun hh => absurd ((hcond0_0 ⟨n + 1, h⟩).mp hh) (by show ¬ (n + 1) % 16 = 0; omega))
    (hc1 := (hcond0_1 ⟨n + 1, h⟩).mpr (by show (n + 1) % 16 = 15; omega)) ..

theorem g10_last (n : ℕ) (hn : n = 14) (h : n + 1 < cfg0.N) : (outsAt0 m c (n + 1) h).2.2.1 = grad m c ![2, 3] := by
  rw [outsAt0_C m c ⟨n + 1, h⟩ (by show ¬ (n + 1) % 16 = 0; omega) (by show (n + 1) % 16 = 15; omega)]
  rw [← fin_eq m c ![2, 3] n hn h]
  exact outC_10 (hc0 := fun hh => absurd ((hcond0_0 ⟨n + 1, h⟩).mp hh) (by show ¬ (n + 1) % 16 = 0; omega))
    (hc1 := (hcond0_1 ⟨n + 1, h⟩).mpr (by show (n + 1) % 16 = 15; omega)) ..

theorem acc9 (n j : ℕ) (hj : j = n + 1) (hn : n = 14) (h : 0 + j < cfg0.N) :
    (Pipeline.accAt (fun n h => stAt0 m c n h junk0) (stAt0 m c) 0 j h).2.1 = grad m c ![0, 1] := by
  subst hj
  rw [← outsAt0_sweep m c (n + 1) (by omega)]
  exact g9_last m c n hn _

theorem acc10 (n j : ℕ) (hj : j = n + 1) (hn : n = 14) (h : 0 + j < cfg0.N) :
    (Pipeline.accAt (fun n h => stAt0 m c n h junk0) (stAt0 m c) 0 j h).2.2.1 = grad m c ![2, 3] := by
  subst hj
  rw [← outsAt0_sweep m c (n + 1) (by omega)]
  exact g10_last m c n hn _

theorem g9_eq : G9 m c = grad m c ![0, 1] :=
  (G9_last m c).trans (acc9 m c 14 15 (by decide) rfl _)

theorem g10_eq : G10 m c = grad m c ![2, 3] :=
  (G10_last m c).trans (acc10 m c 14 15 (by decide) rfl _)

theorem g8_eq (t : Fin cfg0.N) (tt : Fin 128) (h : Fin 32) (l : Fin 256) :
    (G8 m c (ix4 0 (tk t tt) h l) : EReal) = outB m c t (ix4 0 tt h l) := by
  have hp : pt8Of (ix4 0 (tk t tt) h l) = t.val := by
    show 16 * (0 / 1 - 0) + 1 * ((128 * t.val + tt.val) / 128 - 0) + 1 * (h.val / 32 - 0) + 1 * (l.val / 256 - 0) = t.val
    omega
  have hl : loc8Of (ix4 0 (tk t tt) h l) = ix4 0 tt h l := by
    funext a; apply Fin.ext
    match a with
    | ⟨0, _⟩ => rfl
    | ⟨1, _⟩ => show (128 * t.val + tt.val) % 128 = tt.val; omega
    | ⟨2, _⟩ => show h.val % 32 = h.val; omega
    | ⟨3, _⟩ => show l.val % 256 = l.val; omega
  unfold G8
  rw [dif_pos (by rw [hp]; exact t.isLt), hl, fold0_congr m c _ _ _ (by simpa using t.isLt) hp, ← out_pt, outsAt0_sweep]

end Cert.KernelIdeal.Tok

end
-- ==== Proof.Tab.lean ====
/- The rotation's cosine and sine at one angle, as the kernel and as the reference compute them. -/
module

public import Idealize.ShloMosaic.Lib.Pointwise

@[expose] public section

set_option maxRecDepth 16384

noncomputable section

namespace Cert.Tab

open Idealize.ShloMosaic

/-- The whole number of half-turns in an angle. -/
def nr (θ : EReal) : EReal := Ideal.liftRound Ideal.roundHalfEven (θ * Ideal.ofBits .f32 0x3EA2F983#32)
/-- What is left of the angle. -/
def rst (θ : EReal) : EReal :=
  θ - nr θ * Ideal.ofBits .f32 0x40490000#32 - nr θ * Ideal.ofBits .f32 0x3A7D8000#32 - nr θ * Ideal.ofBits .f32 0x35288000#32
/-- The number of half-turns as a machine integer. -/
def sg (θ : EReal) : BitVec 32 := FloatOps.fptosi (F := Ideal) (φ := .f32) 32 (nr θ)

/-- The cosine polynomial, nested. -/
def hc (z : EReal) : EReal :=
  (((((Ideal.ofBits .f32 0x310F76C7#32 * z + Ideal.ofBits .f32 0xB493F27E#32) * z + Ideal.ofBits .f32 0x37D00D01#32) * z
    + Ideal.ofBits .f32 0xBAB60B61#32) * z + Ideal.ofBits .f32 0x3D2AAAAB#32) * z + Ideal.ofBits .f32 0xBF000000#32) * z + 1
/-- The sine polynomial, nested. -/
def hs (r z : EReal) : EReal :=
  r + r * (z * ((((Ideal.ofBits .f32 0xB2D7322B#32 * z + Ideal.ofBits .f32 0x3638EF1D#32) * z + Ideal.ofBits .f32 0xB9500D01#32) * z
    + Ideal.ofBits .f32 0x3C088889#32) * z + Ideal.ofBits .f32 0xBE2AAAAB#32))
/-- The kernel's choice of sign. -/
def ksel (n : BitVec 32) (v : EReal) : EReal :=
  Scalar.select (IntOp.cmpi .slt (IntOp.shli .vector n 31#32) 0#32) (0 - v) v

/-- The cosine polynomial, by powers. -/
def pc (z : EReal) : EReal :=
  1 - z * Ideal.ofBits .f32 0x3F000000#32 + z * z * Ideal.ofBits .f32 0x3D2AAAAB#32 + z * z * z * Ideal.ofBits .f32 0xBAB60B61#32
    + z * z * z * z * Ideal.ofBits .f32 0x37D00D01#32 + z * z * z * z * z * Ideal.ofBits .f32 0xB493F27E#32
    + z * z * z * z * z * z * Ideal.ofBits .f32 0x310F76C7#32
/-- The sine polynomial over its argument, by powers. -/
def ps (z : EReal) : EReal :=
  1 - z * Ideal.ofBits .f32 0x3E2AAAAB#32 + z * z * Ideal.ofBits .f32 0x3C088889#32 + z * z * z * Ideal.ofBits .f32 0xB9500D01#32
    + z * z * z * z * Ideal.ofBits .f32 0x3638EF1D#32 + z * z * z * z * z * Ideal.ofBits .f32 0xB2D7322B#32
/-- The reference's sign. -/
def rsel (n : BitVec 32) : EReal :=
  Scalar.select (IntOp.cmpi .eq (IntOp.andi n 1#32) 1#32) (Ideal.ofBits .f32 0xBF800000#32) 1

theorem real_of (b : BitVec 32) (h : (b.extractLsb' 23 8).toNat ≠ 255) : ∃ r : ℝ, Ideal.ofBits .f32 b = (r : EReal) := by
  show ∃ r : ℝ, Ideal.ieee 8 23 b = r
  unfold Ideal.ieee
  dsimp only
  rw [if_neg (show ¬ (BitVec.extractLsb' 23 8 b).toNat = 2 ^ 8 - 1 from h)]
  split
  · exact ⟨_, rfl⟩
  · exact ⟨_, rfl⟩

theorem b1 : Ideal.ofBits .f32 0xBF800000#32 = ((-1 : ℝ) : EReal) := by
  simp [Ideal.ofBits, Ideal.ieee, -EReal.coe_mul]; norm_num
theorem bHalf : Ideal.ofBits .f32 0x3F000000#32 = ((1 / 2 : ℝ) : EReal) := by
  simp [Ideal.ofBits, Ideal.ieee, -EReal.coe_mul]; norm_num
theorem bHalfNeg : Ideal.ofBits .f32 0xBF000000#32 = ((-(1 / 2) : ℝ) : EReal) := by
  simp [Ideal.ofBits, Ideal.ieee, -EReal.coe_mul]; norm_num
theorem bSixth : ∃ r : ℝ, Ideal.ofBits .f32 0x3E2AAAAB#32 = (r : EReal) ∧ Ideal.ofBits .f32 0xBE2AAAAB#32 = ((-r : ℝ) : EReal) := by
  refine ⟨11184811 / 67108864, ?_, ?_⟩
  · simp [Ideal.ofBits, Ideal.ieee, -EReal.coe_mul]; norm_num
  · simp [Ideal.ofBits, Ideal.ieee, -EReal.coe_mul]; norm_num

theorem hc_pc (z : ℝ) : ∃ r : ℝ, hc z = r ∧ pc z = r := by
  obtain ⟨c1, h1⟩ := real_of 0x310F76C7#32 (by decide)
  obtain ⟨c2, h2⟩ := real_of 0xB493F27E#32 (by decide)
  obtain ⟨c3, h3⟩ := real_of 0x37D00D01#32 (by decide)
  obtain ⟨c4, h4⟩ := real_of 0xBAB60B61#32 (by decide)
  obtain ⟨c5, h5⟩ := real_of 0x3D2AAAAB#32 (by decide)
  refine ⟨(((((c1 * z + c2) * z + c3) * z + c4) * z + c5) * z + -(1 / 2)) * z + 1, ?_, ?_⟩
  · unfold hc
    rw [h1, h2, h3, h4, h5, bHalfNeg]
    norm_cast
  · unfold pc
    rw [h1, h2, h3, h4, h5, bHalf]
    rw [show (1 : EReal) = ((1 : ℝ) : EReal) from rfl]
    simp only [← EReal.coe_mul, ← EReal.coe_add, ← EReal.coe_sub]
    congr 1; ring

theorem hs_ps (r : ℝ) : ∃ v : ℝ, hs r (r * r : EReal) = v ∧ r * ps (r * r : EReal) = v := by
  obtain ⟨c1, h1⟩ := real_of 0xB2D7322B#32 (by decide)
  obtain ⟨c2, h2⟩ := real_of 0x3638EF1D#32 (by decide)
  obtain ⟨c3, h3⟩ := real_of 0xB9500D01#32 (by decide)
  obtain ⟨c4, h4⟩ := real_of 0x3C088889#32 (by decide)
  obtain ⟨c5, h5, h6⟩ := bSixth
  refine ⟨r + r * (r * r * ((((c1 * (r * r) + c2) * (r * r) + c3) * (r * r) + c4) * (r * r) + -c5)), ?_, ?_⟩
  · unfold hs
    rw [h1, h2, h3, h4, h6]
    norm_cast
  · unfold ps
    rw [h1, h2, h3, h4, h5]
    rw [show (1 : EReal) = ((1 : ℝ) : EReal) from rfl]
    simp only [← EReal.coe_mul, ← EReal.coe_add, ← EReal.coe_sub]
    congr 1; ring

theorem sign_bit (n : BitVec 32) : ((n <<< (31 : ℕ)).slt 0#32) = (n &&& 1#32 == 1#32) := by
  rw [BitVec.slt_zero_eq_msb]
  rw [BitVec.msb_shiftLeft]
  rw [Bool.eq_iff_iff]
  rw [beq_iff_eq]
  constructor
  · intro h
    apply BitVec.eq_of_getLsbD_eq
    intro i hi
    rcases Nat.eq_zero_or_pos i with rfl | hp
    · simpa [BitVec.getMsbD] using h
    · simp [BitVec.getLsbD_one]; omega
  · intro h
    have := congrArg (fun b => b.getLsbD 0) h
    simpa [BitVec.getMsbD] using this

theorem sel_eq (n : BitVec 32) (v : ℝ) : ksel n v = rsel n * v := by
  unfold ksel rsel
  have h : IntOp.cmpi .slt (IntOp.shli .vector n 31#32) 0#32 = IntOp.cmpi .eq (IntOp.andi n 1#32) 1#32 := by
    show BitVec.ofBool ((n <<< (31 : ℕ)).slt 0#32) = BitVec.ofBool (n &&& 1#32 == 1#32)
    rw [sign_bit]
  rw [h]
  generalize IntOp.cmpi .eq (IntOp.andi n 1#32) 1#32 = c
  unfold Scalar.select
  by_cases hc : c = 1
  · rw [if_pos hc, if_pos hc, b1, zero_sub, ← EReal.coe_mul, ← EReal.coe_neg]
    exact congrArg _ (neg_one_mul v).symm
  · rw [if_neg hc, if_neg hc, one_mul]

theorem nr_real (θ : ℝ) : ∃ r : ℝ, nr θ = r := by
  obtain ⟨c, hc⟩ := real_of 0x3EA2F983#32 (by decide)
  unfold nr
  rw [hc, ← EReal.coe_mul]
  exact ⟨_, rfl⟩

theorem rst_real (θ : ℝ) : ∃ r : ℝ, rst θ = r := by
  obtain ⟨n, hn⟩ := nr_real θ
  obtain ⟨a, ha⟩ := real_of 0x40490000#32 (by decide)
  obtain ⟨b, hb⟩ := real_of 0x3A7D8000#32 (by decide)
  obtain ⟨c, hc⟩ := real_of 0x35288000#32 (by decide)
  unfold rst
  rw [hn, ha, hb, hc]
  exact ⟨θ - n * a - n * b - n * c, by norm_cast⟩

/-- The two cosines agree at a real angle. -/
theorem cos_eq (θ : ℝ) : ksel (sg θ) (hc (rst θ * rst θ)) = rsel (sg θ) * pc (rst θ * rst θ) := by
  obtain ⟨r, hr⟩ := rst_real θ
  rw [hr, ← EReal.coe_mul]
  obtain ⟨v, h1, h2⟩ := hc_pc (r * r)
  rw [h1, h2, sel_eq]

/-- The two sines agree at a real angle. -/
theorem sin_eq (θ : ℝ) : ksel (sg θ) (hs (rst θ) (rst θ * rst θ)) = rsel (sg θ) * (rst θ * ps (rst θ * rst θ)) := by
  obtain ⟨r, hr⟩ := rst_real θ
  rw [hr]
  obtain ⟨v, h1, h2⟩ := hs_ps r
  rw [h1, h2, sel_eq]

/-- The angle of lane `k` at position `p`. -/
def ang (p : BitVec 32) (k : ℕ) : EReal :=
  FloatOps.sitofp (F := Ideal) .f32 p * Ideal.pow (Ideal.ofBits .f32 0x49742400#32)
    (-(Ideal.div (Ideal.ofBits .f32 0x40000000#32 * FloatOps.sitofp (F := Ideal) .f32 (BitVec.ofNat 32 k)) (Ideal.ofBits .f32 0x43800000#32)))

theorem ang_real (p : BitVec 32) (k : ℕ) : ∃ r : ℝ, ang p k = r := by
  obtain ⟨a, ha⟩ := real_of 0x49742400#32 (by decide)
  obtain ⟨b, hb⟩ := real_of 0x40000000#32 (by decide)
  have h256 : Ideal.ofBits .f32 0x43800000#32 = ((256 : ℝ) : EReal) := by
    simp [Ideal.ofBits, Ideal.ieee, -EReal.coe_mul]; norm_num
  obtain ⟨s, hs⟩ : ∃ s : ℝ, (FloatOps.sitofp (F := Ideal) .f32 (BitVec.ofNat 32 k) : EReal) = s := ⟨_, rfl⟩
  obtain ⟨q, hq⟩ : ∃ s : ℝ, (FloatOps.sitofp (F := Ideal) .f32 p : EReal) = s := ⟨_, rfl⟩
  unfold ang
  rw [ha, hb, h256]
  refine ⟨q * Real.rpow a (-(b * s * 256⁻¹)), ?_⟩
  have e : Ideal.div ((b : EReal) * (s : EReal)) ((256 : ℝ) : EReal) = ((b * s * 256⁻¹ : ℝ) : EReal) := by
    unfold Ideal.div
    rw [if_neg (by exact_mod_cast (by norm_num : (256 : ℝ) ≠ 0)), ← EReal.coe_inv, ← EReal.coe_mul, ← EReal.coe_mul]
  rw [EReal.coe_mul, ← hq]
  congr 1
  refine (congrArg (fun z => Ideal.pow (a : EReal) (-z)) ((congrArg (fun z : EReal => Ideal.div ((b : EReal) * z) ((256 : ℝ) : EReal)) hs).trans e)).trans ?_
  rw [← EReal.coe_neg]
  rfl

end Cert.Tab

end
-- ==== Proof.KTab.lean ====
/- The kernel's tables at one token and lane. -/
module

public import proofs.«01_k».proof.Proof.KGrid
public import proofs.«01_k».proof.Proof.Tab

@[expose] public section

set_option maxRecDepth 16384

noncomputable section

namespace Cert.KernelIdeal.Tok

open Cert.KernelIdeal Cert.KernelIdeal.Gen Cert.KernelIdeal.Value
open Idealize.ShloMosaic Idealize.ShloMosaic.TcCoe Idealize.SL.Sem
open Cert.Tab (nr rst sg hc hs ksel ang)

section Pay
variable (x6 : Vec Ideal S1x128 .i32) (x7 : Vec Ideal S1x128 .f32) (t l : Fin 128)

/-- The angle, as the product of a position and a frequency. -/
def an : EReal := FloatOps.sitofp (F := Ideal) .f32 (x6 (ix2 0 t)) * x7 (ix2 0 l)

theorem n_at : (k0_pay711 x6 x7 (ix2 t l) : EReal) = nr (an x6 x7 t l) := by
  unfold an nr
  pointwise [k0_pay710, k0_pay711]
theorem rest_at : (k0_pay712 x6 x7 (ix2 t l) : EReal) = rst (an x6 x7 t l) := by
  unfold rst
  rw [← n_at]
  unfold an
  pointwise [k0_pay710, k0_pay712]
theorem sg_at : (k0_pay713 x6 x7 (ix2 t l) : BitVec 32) = IntOp.shli .vector (sg (an x6 x7 t l)) 31#32 := by
  unfold sg
  rw [← n_at]
  pointwise [k0_pay713]
theorem z_at : (k0_pay714 x6 x7 (ix2 t l) : EReal) = rst (an x6 x7 t l) * rst (an x6 x7 t l) := by
  rw [← rest_at]
  pointwise [k0_pay714]
theorem cosT_at : (cosT x6 x7 (ix2 t l) : EReal) = ksel (sg (an x6 x7 t l)) (hc (rst (an x6 x7 t l) * rst (an x6 x7 t l))) := by
  unfold cosT hc ksel
  rw [← z_at, ← sg_at]
  pointwise [k0_pay716, k0_pay717]
theorem sinT_at : (sinT x6 x7 (ix2 t l) : EReal) = ksel (sg (an x6 x7 t l)) (hs (rst (an x6 x7 t l)) (rst (an x6 x7 t l) * rst (an x6 x7 t l))) := by
  unfold sinT hs ksel
  rw [← z_at, ← sg_at, ← rest_at]
  pointwise [k0_pay715, k0_pay718]
end Pay

end Cert.KernelIdeal.Tok
end
-- ==== Proof.Alg.lean ====
/- Sums and products of extended reals: scales drawn out of products and sums. -/
module

public import Idealize.ShloMosaic.Lib.Pointwise

@[expose] public section

noncomputable section

namespace Cert.Alg

open Idealize.ShloMosaic

theorem b256 : Ideal.ofBits .f32 0x43800000#32 = ((256 : ℝ) : EReal) := by
  simp [Ideal.ofBits, Ideal.ieee, -EReal.coe_mul]; norm_num
theorem bInv : Ideal.ofBits .f32 0x3B800000#32 = ((256⁻¹ : ℝ) : EReal) := by
  simp [Ideal.ofBits, Ideal.ieee, -EReal.coe_mul]; norm_num
theorem bEps : ∃ r : ℝ, 0 < r ∧ Ideal.ofBits .f32 0x358637BD#32 = (r : EReal) := by
  refine ⟨_, ?_, by simp [Ideal.ofBits, Ideal.ieee]; rfl⟩
  norm_num

theorem div256 (a : EReal) : Ideal.div a (Ideal.ofBits .f32 0x43800000#32) = a * Ideal.ofBits .f32 0x3B800000#32 := by
  rw [b256, bInv]
  unfold Ideal.div
  rw [if_neg (by exact_mod_cast (by norm_num : (256 : ℝ) ≠ 0)), ← EReal.coe_inv]

/-- The distributive law of a finite factor that is not negative, over a sum of any terms. -/
theorem sum_mul {ι : Type} (s : Finset ι) (f : ι → EReal) (w : EReal) (h0 : 0 ≤ w) (ht : w ≠ ⊤) :
    (∑ i ∈ s, f i) * w = ∑ i ∈ s, f i * w := by
  classical
  induction s using Finset.induction_on with
  | empty => simp
  | insert a s ha ih =>
    rw [Finset.sum_insert ha, Finset.sum_insert ha, ← ih, mul_comm, EReal.left_distrib_of_nonneg_of_ne_top h0 ht, mul_comm w, mul_comm w]

theorem sum_nonneg {ι : Type} (s : Finset ι) (f : ι → EReal) (hf : ∀ i, 0 ≤ f i) : 0 ≤ ∑ i ∈ s, f i :=
  Finset.sum_nonneg fun i _ => hf i

/-- The distributive law of any factor over a sum of terms that are not negative. -/
theorem sum_nonneg_mul {ι : Type} (s : Finset ι) (f : ι → EReal) (hf : ∀ i, 0 ≤ f i) (w : EReal) :
    (∑ i ∈ s, f i) * w = ∑ i ∈ s, f i * w := by
  classical
  induction s using Finset.induction_on with
  | empty => simp
  | insert a s ha ih =>
    rw [Finset.sum_insert ha, Finset.sum_insert ha, ← ih, EReal.right_distrib_of_nonneg (hf a) (sum_nonneg s f hf)]

theorem sq_nonneg' (x : EReal) : 0 ≤ x * x := by
  rcases le_total 0 x with h | h
  · exact mul_nonneg h h
  · have : 0 ≤ -x := EReal.neg_nonneg.mpr h
    have := mul_nonneg this this
    rwa [neg_mul_neg] at this

section Row
variable (d q : EReal) (x1 x2 y1 y2 c s g1 g2 : Fin 128 → EReal)

/-- The sum of a row's squares. -/
def sq : EReal := ∑ l, (x1 l * x1 l + x2 l * x2 l)
/-- One over the root mean square of a row with scale `q`. -/
def rs : EReal := Ideal.rsqrt (sq x1 x2 * (q * q) * Ideal.ofBits .f32 0x3B800000#32 + Ideal.ofBits .f32 0x358637BD#32)

theorem sq_nonneg_row : 0 ≤ sq x1 x2 := sum_nonneg _ _ fun l => add_nonneg (sq_nonneg' _) (sq_nonneg' _)

theorem ms_eq : (∑ l, x1 l * q * (x1 l * q)) + (∑ l, x2 l * q * (x2 l * q)) = sq x1 x2 * (q * q) := by
  unfold sq
  rw [sum_nonneg_mul _ _ (fun l => add_nonneg (sq_nonneg' _) (sq_nonneg' _)), ← Finset.sum_add_distrib]
  refine Finset.sum_congr rfl fun l _ => ?_
  rw [EReal.right_distrib_of_nonneg (sq_nonneg' _) (sq_nonneg' _), mul_mul_mul_comm, mul_mul_mul_comm (x2 l)]

theorem rs_nonneg : 0 ≤ rs q x1 x2 ∧ rs q x1 x2 ≠ ⊤ := by
  obtain ⟨e, he, hb⟩ := bEps
  unfold rs
  have hA : 0 ≤ sq x1 x2 * (q * q) * Ideal.ofBits .f32 0x3B800000#32 :=
    mul_nonneg (mul_nonneg (sq_nonneg_row x1 x2) (sq_nonneg' q)) (by rw [bInv]; exact_mod_cast (by norm_num : (0 : ℝ) ≤ 256⁻¹))
  generalize sq x1 x2 * (q * q) * Ideal.ofBits .f32 0x3B800000#32 = A at hA
  rw [hb]
  induction A with
  | bot => exact absurd hA (by simp)
  | top => rw [EReal.top_add_coe]; exact ⟨le_refl _, EReal.zero_ne_top⟩
  | coe r =>
    have hr : 0 ≤ r := by exact_mod_cast hA
    rw [← EReal.coe_add]
    show 0 ≤ (if r + e < 0 then ⊥ else if r + e = 0 then ⊤ else (((Real.sqrt (r + e))⁻¹ : ℝ) : EReal)) ∧ (if r + e < 0 then ⊥ else if r + e = 0 then ⊤ else (((Real.sqrt (r + e))⁻¹ : ℝ) : EReal)) ≠ ⊤
    rw [if_neg (by linarith), if_neg (by linarith)]
    exact ⟨by exact_mod_cast inv_nonneg.mpr (Real.sqrt_nonneg _), EReal.coe_ne_top _⟩

/-- Either the row is zero, or its scale times `rs` is finite. -/
theorem row_cases (hq : 0 ≤ q) : ((∀ l, x1 l = 0) ∧ ∀ l, x2 l = 0) ∨ q * rs q x1 x2 ≠ ⊤ := by
  by_cases ht : q = ⊤
  · subst ht
    by_cases hz : sq x1 x2 = 0
    · left
      have h0 : ∀ l, x1 l * x1 l + x2 l * x2 l = 0 := fun l =>
        (Finset.sum_eq_zero_iff_of_nonneg (fun l _ => add_nonneg (sq_nonneg' (x1 l)) (sq_nonneg' (x2 l)))).mp hz l (Finset.mem_univ l)
      have h1 : ∀ l, x1 l * x1 l = 0 ∧ x2 l * x2 l = 0 := fun l =>
        (add_eq_zero_iff_of_nonneg (sq_nonneg' (x1 l)) (sq_nonneg' (x2 l))).mp (h0 l)
      exact ⟨fun l => mul_self_eq_zero.mp (h1 l).1, fun l => mul_self_eq_zero.mp (h1 l).2⟩
    · right
      have hp : 0 < sq x1 x2 := lt_of_le_of_ne (sq_nonneg_row x1 x2) (Ne.symm hz)
      have : rs ⊤ x1 x2 = 0 := by
        unfold rs
        obtain ⟨e, he, hb⟩ := bEps
        rw [EReal.top_mul_top, EReal.mul_top_of_pos hp, bInv, EReal.top_mul_coe_of_pos (by norm_num), hb, EReal.top_add_coe]
        rfl
      rw [this, mul_zero]; exact EReal.zero_ne_top
  · right
    obtain ⟨h0, h1⟩ := rs_nonneg q x1 x2
    induction q with
    | bot => exact absurd hq (by simp)
    | top => exact absurd rfl ht
    | coe q =>
      generalize rs (q : EReal) x1 x2 = r at h0 h1
      induction r with
      | bot => exact absurd h0 (by simp)
      | top => exact absurd rfl h1
      | coe r => rw [← EReal.coe_mul]; exact EReal.coe_ne_top _

theorem mul_ne_top' {a b : EReal} (ha : 0 ≤ a) (ha' : a ≠ ⊤) (hb : 0 ≤ b) (hb' : b ≠ ⊤) : a * b ≠ ⊤ := by
  induction a with
  | bot => exact absurd ha (by simp)
  | top => exact absurd rfl ha'
  | coe a =>
    induction b with
    | bot => exact absurd hb (by simp)
    | top => exact absurd rfl hb'
    | coe b => rw [← EReal.coe_mul]; exact EReal.coe_ne_top _

theorem back1 (h0 : 0 ≤ d) (ht : d ≠ ⊤) (a b e f : EReal) : a * d * e + b * d * f = d * (a * e + b * f) := by
  rw [EReal.left_distrib_of_nonneg_of_ne_top h0 ht]; ac_rfl
theorem back2 (h0 : 0 ≤ d) (ht : d ≠ ⊤) (a b e f : EReal) : a * d * e - b * d * f = d * (a * e - b * f) := by
  rw [sub_eq_add_neg, sub_eq_add_neg, EReal.left_distrib_of_nonneg_of_ne_top h0 ht, mul_neg]
  congr 1
  · ac_rfl
  · congr 1; ac_rfl

theorem prod_eq (v x r : EReal) : d * v * (x * q * r) = v * x * (d * (q * r)) := by ac_rfl

/-- The mean of a row's products, the scales drawn out. -/
theorem mean_eq (hd : 0 ≤ d) (hdt : d ≠ ⊤) (hq : 0 ≤ q) (v1 v2 : Fin 128 → EReal) (r : EReal) (hr : 0 ≤ r) (he : q * r ≠ ⊤) :
    Ideal.div ((∑ l, d * v1 l * g1 l * (x1 l * q * r)) + ∑ l, d * v2 l * g2 l * (x2 l * q * r)) (Ideal.ofBits .f32 0x43800000#32)
      = (∑ l, (v1 l * x1 l * g1 l + v2 l * x2 l * g2 l)) * (d * (q * r)) * Ideal.ofBits .f32 0x3B800000#32 := by
  have hw : 0 ≤ d * (q * r) := mul_nonneg hd (mul_nonneg hq hr)
  have hwt : d * (q * r) ≠ ⊤ := mul_ne_top' hd hdt (mul_nonneg hq hr) he
  rw [div256, sum_mul _ _ _ hw hwt, ← Finset.sum_add_distrib]
  congr 1
  refine Finset.sum_congr rfl fun l _ => ?_
  rw [mul_comm (_ + _), EReal.left_distrib_of_nonneg_of_ne_top hw hwt]
  congr 1 <;> ac_rfl

/-- A half row of the result, the scales drawn out. -/
theorem out_eq (hd : 0 ≤ d) (hdt : d ≠ ⊤) (hq : 0 ≤ q) (v1 v2 : Fin 128 → EReal) (v g x : EReal)
    (hx : ((∀ l, x1 l = 0) ∧ ∀ l, x2 l = 0) → x = 0) :
    rs q x1 x2 * (d * v * g - x * q * rs q x1 x2 *
        Ideal.div ((∑ l, d * v1 l * g1 l * (x1 l * q * rs q x1 x2)) + ∑ l, d * v2 l * g2 l * (x2 l * q * rs q x1 x2)) (Ideal.ofBits .f32 0x43800000#32))
      = v * g * (d * rs q x1 x2) - x * ((∑ l, (v1 l * x1 l * g1 l + v2 l * x2 l * g2 l)) * (d * (q * rs q x1 x2)) * (q * rs q x1 x2 * rs q x1 x2 * Ideal.ofBits .f32 0x3B800000#32)) := by
  obtain ⟨hr, hrt⟩ := rs_nonneg q x1 x2
  rcases row_cases q x1 x2 hq with hz | he
  · rw [hx hz]
    simp only [zero_mul, sub_zero]
    ac_rfl
  · rw [mean_eq d q x1 x2 g1 g2 hd hdt hq v1 v2 _ hr he]
    rw [sub_eq_add_neg, sub_eq_add_neg, EReal.left_distrib_of_nonneg_of_ne_top hr hrt, mul_neg]
    congr 1
    · ac_rfl
    · congr 1; ac_rfl

end Row

end Cert.Alg

end
-- ==== Proof.Spec.lean ====
/- What both programs compute, said once over plain functions of a token, a head and a lane. -/
module

public import proofs.«01_k».proof.Proof.Alg
public import proofs.«01_k».proof.Proof.Tab

@[expose] public section

noncomputable section

namespace Cert.Spec

open Idealize.ShloMosaic
open Cert.Tab (nr rst sg pc ps rsel ang ksel hc hs)

/-- A query or key head among all heads. -/
def up (h : Fin 24) : Fin 32 := ⟨h.val, by omega⟩
/-- Lane `l` of the first half. -/
def lo (l : Fin 128) : Fin 256 := ⟨l.val, by omega⟩
/-- Lane `l` of the second half. -/
def hi (l : Fin 128) : Fin 256 := ⟨128 + l.val, by omega⟩

section
variable (y : Fin 2048 → Fin 32 → Fin 256 → EReal) (d : Fin 2048 → Fin 32 → EReal) (x : Fin 2048 → Fin 24 → Fin 256 → EReal)
  (q : Fin 2048 → Fin 24 → EReal) (g k : Fin 256 → EReal) (p : Fin 2048 → BitVec 32)
variable (T : Fin 2048) (h : Fin 24) (l : Fin 128)

/-- The table of cosines. -/
def co : EReal := rsel (sg (ang (p T) l.val)) * pc (rst (ang (p T) l.val) * rst (ang (p T) l.val))
/-- The table of sines. -/
def si : EReal := rsel (sg (ang (p T) l.val)) * (rst (ang (p T) l.val) * ps (rst (ang (p T) l.val) * rst (ang (p T) l.val)))
/-- The gain of a head, by halves. -/
def gain (r : Fin 2) : EReal := if h.val < 16 then g ⟨r.val * 128 + l.val, by omega⟩ else k ⟨r.val * 128 + l.val, by omega⟩
/-- The gradient rows turned back, by halves. -/
def w1 : EReal := y T (up h) (lo l) * co p T l + y T (up h) (hi l) * si p T l
def w2 : EReal := y T (up h) (hi l) * co p T l - y T (up h) (lo l) * si p T l
/-- The inverse root of a row's mean square. -/
def ir : EReal := Alg.rs (q T h) (fun l => x T h (lo l)) (fun l => x T h (hi l))
/-- The correction of a row. -/
def corr : EReal := (∑ l, (w1 y p T h l * x T h (lo l) * gain g k h l 0 + w2 y p T h l * x T h (hi l) * gain g k h l 1))
  * (d T (up h) * (q T h * ir x q T h)) * (q T h * ir x q T h * ir x q T h * Ideal.ofBits .f32 0x3B800000#32)
/-- The first result, by halves. -/
def p1 : EReal := w1 y p T h l * gain g k h l 0 * (d T (up h) * ir x q T h) - x T h (lo l) * corr y d x q g k p T h
def p2 : EReal := w2 y p T h l * gain g k h l 1 * (d T (up h) * ir x q T h) - x T h (hi l) * corr y d x q g k p T h
/-- The terms of the gains' gradients, by halves. -/
def t1 : EReal := w1 y p T h l * x T h (lo l) * (d T (up h) * (q T h * ir x q T h))
def t2 : EReal := w2 y p T h l * x T h (hi l) * (d T (up h) * (q T h * ir x q T h))

theorem co_eq : ksel (sg (ang (p T) l.val)) (hc (rst (ang (p T) l.val) * rst (ang (p T) l.val))) = co p T l := by
  obtain ⟨r, hr⟩ := Tab.ang_real (p T) l.val
  unfold co
  rw [hr]
  exact Tab.cos_eq r
theorem si_eq : ksel (sg (ang (p T) l.val)) (hs (rst (ang (p T) l.val)) (rst (ang (p T) l.val) * rst (ang (p T) l.val))) = si p T l := by
  obtain ⟨r, hr⟩ := Tab.ang_real (p T) l.val
  unfold si
  rw [hr]
  exact Tab.sin_eq r
end

/-- A sum over tokens is a sum over blocks of tokens. -/
theorem sum_tok (f : Fin 2048 → EReal) : ∑ T, f T = ∑ k : Fin 16, ∑ t : Fin 128, f ⟨128 * k.val + t.val, by omega⟩ := by
  rw [← Fintype.sum_prod_type' (f := fun (k : Fin 16) (t : Fin 128) => f ⟨128 * k.val + t.val, by omega⟩)]
  refine (Fintype.sum_equiv (finProdFinEquiv (m := 16) (n := 128)) _ (fun T : Fin (16 * 128) => f T) fun z => ?_).symm
  exact congrArg f (Fin.ext (Nat.add_comm _ _))
/-- A sum over sixteen heads is a sum over the pairs of heads eight apart. -/
theorem sum_head (f : Fin 16 → EReal) : ∑ h, f h = ∑ s : Fin 8, (f ⟨s.val, by omega⟩ + f ⟨8 + s.val, by omega⟩) := by
  rw [Finset.sum_add_distrib]
  exact Fin.sum_univ_add (a := 8) (b := 8) f

theorem sums16 (N : ℕ) (hN : N = 16) (f : Fin 2048 → Fin 24 → EReal) :
    (∑ s : Fin 8, ∑ k : Fin N, ∑ t : Fin 128, (f ⟨128 * k.val + t.val, by omega⟩ ⟨s.val, by omega⟩ + f ⟨128 * k.val + t.val, by omega⟩ ⟨8 + s.val, by omega⟩))
      = ∑ T : Fin 2048, ∑ h : Fin 16, f T ⟨h.val, by omega⟩ := by
  subst hN
  symm
  calc ∑ T : Fin 2048, ∑ h : Fin 16, f T ⟨h.val, by omega⟩
      = ∑ T : Fin 2048, ∑ s : Fin 8, (f T ⟨s.val, by omega⟩ + f T ⟨8 + s.val, by omega⟩) :=
        Finset.sum_congr rfl fun T _ => sum_head fun h => f T ⟨h.val, by omega⟩
    _ = ∑ s : Fin 8, ∑ T : Fin 2048, (f T ⟨s.val, by omega⟩ + f T ⟨8 + s.val, by omega⟩) := Finset.sum_comm
    _ = _ := Finset.sum_congr rfl fun s _ => sum_tok fun T => f T ⟨s.val, by omega⟩ + f T ⟨8 + s.val, by omega⟩
theorem sums8 (N : ℕ) (hN : N = 16) (f : Fin 2048 → Fin 24 → EReal) :
    (∑ s : Fin 8, ∑ k : Fin N, ∑ t : Fin 128, f ⟨128 * k.val + t.val, by omega⟩ ⟨16 + s.val, by omega⟩)
      = ∑ T : Fin 2048, ∑ h : Fin 8, f T ⟨16 + h.val, by omega⟩ := by
  subst hN
  symm
  calc ∑ T : Fin 2048, ∑ h : Fin 8, f T ⟨16 + h.val, by omega⟩
      = ∑ s : Fin 8, ∑ T : Fin 2048, f T ⟨16 + s.val, by omega⟩ := Finset.sum_comm
    _ = _ := Finset.sum_congr rfl fun s _ => sum_tok fun T => f T ⟨16 + s.val, by omega⟩

end Cert.Spec
end
-- ==== Proof.KSpec.lean ====
/- The kernel's three results, as the functions of `Spec`. -/
module

public import proofs.«01_k».proof.Proof.KTab
public import proofs.«01_k».proof.Proof.Spec

@[expose] public section

set_option maxRecDepth 16384

noncomputable section

namespace Cert.KernelIdeal.Tok

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)

/-- The arguments, as functions of their coordinates. -/
def a0 : Fin 2048 → Fin 32 → Fin 256 → EReal := fun T h l => m ((c : Thread nD τ).loc main_arg0) (ix4 0 T h l)
def a1 : Fin 2048 → Fin 32 → EReal := fun T h => m ((c : Thread nD τ).loc main_arg1) (ix3 0 T h)
def a2 : Fin 2048 → Fin 24 → Fin 256 → EReal := fun T h l => m ((c : Thread nD τ).loc main_arg2) (ix4 0 T h l)
def a3 : Fin 2048 → Fin 24 → EReal := fun T h => m ((c : Thread nD τ).loc main_arg3) (ix3 0 T h)
def a4 : Fin 256 → EReal := fun l => m ((c : Thread nD τ).loc main_arg4) (ix1 l)
def a5 : Fin 256 → EReal := fun l => m ((c : Thread nD τ).loc main_arg5) (ix1 l)
def a6 : Fin 2048 → BitVec 32 := fun T => m ((c : Thread nD τ).loc main_arg6) (ix2 0 T)

variable (t : Fin cfg0.N) (tt : Fin 128) (h : Fin 24) (l : Fin 128)

theorem an_eq : an (iblk m c 6 t) (iblk m c 7 t) tt l = Tab.ang (a6 m c (tk t tt)) l.val := by
  unfold an
  rw [iblk6_at, iblk7_V, V8_at]
  rfl
theorem cosB : (cosT (iblk m c 6 t) (iblk m c 7 t) (ix2 tt l) : EReal) = Spec.co (a6 m c) (tk t tt) l := by
  rw [cosT_at, an_eq]
  exact Spec.co_eq (a6 m c) (tk t tt) l
theorem sinB : (sinT (iblk m c 6 t) (iblk m c 7 t) (ix2 tt l) : EReal) = Spec.si (a6 m c) (tk t tt) l := by
  rw [sinT_at, an_eq]
  exact Spec.si_eq (a6 m c) (tk t tt) l
theorem v1B : v1 (iblk m c 0 t) (cosT (iblk m c 6 t) (iblk m c 7 t)) (sinT (iblk m c 6 t) (iblk m c 7 t)) tt h l
    = Spec.w1 (a0 m c) (a6 m c) (tk t tt) h l := by
  unfold v1
  rw [cosB, sinB, iblk0_at, iblk0_at]
  rfl
theorem v2B : v2 (iblk m c 0 t) (cosT (iblk m c 6 t) (iblk m c 7 t)) (sinT (iblk m c 6 t) (iblk m c 7 t)) tt h l
    = Spec.w2 (a0 m c) (a6 m c) (tk t tt) h l := by
  unfold v2
  rw [cosB, sinB, iblk0_at, iblk0_at]
  rfl
theorem msB : (msv (iblk m c 2 t) (ix2 h tt) : EReal) = Alg.sq (fun l => a2 m c (tk t tt) h (Spec.lo l)) (fun l => a2 m c (tk t tt) h (Spec.hi l)) := by
  show sqOf (iblk m c 2 t) h tt = _
  unfold sqOf Alg.sq
  refine Finset.sum_congr rfl fun i _ => ?_
  rw [iblk2_at, iblk2_at]
  rfl
theorem rhoB : rho (iblk m c 3 t (ix3 0 tt h)) (msv (iblk m c 2 t) (ix2 h tt)) = Spec.ir (a2 m c) (a3 m c) (tk t tt) h := by
  unfold rho
  rw [iblk3_at, msB]
  rfl
theorem aB : (wA (iblk m c 1 t) (iblk m c 2 t) (iblk m c 3 t) (ix2 h tt) : EReal)
    = a1 m c (tk t tt) (Spec.up h) * Spec.ir (a2 m c) (a3 m c) (tk t tt) h := by
  unfold wA
  rw [a_at, rhoB, iblk1_at]
  rfl
theorem wB' : (wW (iblk m c 1 t) (iblk m c 2 t) (iblk m c 3 t) (ix2 h tt) : EReal)
    = a1 m c (tk t tt) (Spec.up h) * (a3 m c (tk t tt) h * Spec.ir (a2 m c) (a3 m c) (tk t tt) h) := by
  unfold wW
  rw [w_at, rhoB, iblk1_at, iblk3_at]
  rfl
theorem bB : (wB (iblk m c 2 t) (iblk m c 3 t) (ix2 h tt) : EReal)
    = a3 m c (tk t tt) h * Spec.ir (a2 m c) (a3 m c) (tk t tt) h * Spec.ir (a2 m c) (a3 m c) (tk t tt) h * Ideal.ofBits .f32 0x3B800000#32 := by
  unfold wB
  rw [b_at, rhoB, iblk3_at]
  rfl
theorem gnB (r : Fin 2) : gn (fun l => iblk m c 4 t (ix2 r l)) (fun l => iblk m c 5 t (ix2 r l)) h l = Spec.gain (a4 m c) (a5 m c) h l r := by
  unfold gn Spec.gain
  dsimp only
  rw [iblk4_V, iblk5_V, V9_at, V10_at]
  rfl
theorem corB : cor (iblk m c 0 t) (iblk m c 2 t) (cosT (iblk m c 6 t) (iblk m c 7 t)) (sinT (iblk m c 6 t) (iblk m c 7 t))
    (wB (iblk m c 2 t) (iblk m c 3 t)) (wW (iblk m c 1 t) (iblk m c 2 t) (iblk m c 3 t))
    (fun l => iblk m c 4 t (ix2 0 l)) (fun l => iblk m c 4 t (ix2 1 l)) (fun l => iblk m c 5 t (ix2 0 l)) (fun l => iblk m c 5 t (ix2 1 l)) tt h
    = Spec.corr (a0 m c) (a1 m c) (a2 m c) (a3 m c) (a4 m c) (a5 m c) (a6 m c) (tk t tt) h := by
  unfold cor Spec.corr
  rw [wB', bB]
  refine congrArg (fun z => z * (a1 m c (tk t tt) (Spec.up h) * (a3 m c (tk t tt) h * Spec.ir (a2 m c) (a3 m c) (tk t tt) h))
    * (a3 m c (tk t tt) h * Spec.ir (a2 m c) (a3 m c) (tk t tt) h * Spec.ir (a2 m c) (a3 m c) (tk t tt) h * Ideal.ofBits .f32 0x3B800000#32)) (Finset.sum_congr rfl fun l _ => ?_)
  exact congrArg₂ (fun a b : EReal => a + b)
    (congrArg₂ (fun a b : EReal => a * b) (congrArg₂ (fun a b : EReal => a * b) (v1B m c t tt h l) (iblk2_at m c t tt h (lo l))) (gnB m c t h l 0))
    (congrArg₂ (fun a b : EReal => a * b) (congrArg₂ (fun a b : EReal => a * b) (v2B m c t tt h l) (iblk2_at m c t tt h (hi l))) (gnB m c t h l 1))
theorem k8_lo : (G8 m c (ix4 0 (tk t tt) (up h) (lo l)) : EReal)
    = Spec.p1 (a0 m c) (a1 m c) (a2 m c) (a3 m c) (a4 m c) (a5 m c) (a6 m c) (tk t tt) h l := by
  rw [g8_eq]
  unfold outB
  rw [blk_lo]
  unfold o1 Spec.p1
  rw [v1B, gnB, corB, aB, iblk2_at]
  rfl
theorem k8_hi : (G8 m c (ix4 0 (tk t tt) (up h) (hi l)) : EReal)
    = Spec.p2 (a0 m c) (a1 m c) (a2 m c) (a3 m c) (a4 m c) (a5 m c) (a6 m c) (tk t tt) h l := by
  rw [g8_eq]
  unfold outB
  rw [blk_hi]
  unfold o2 Spec.p2
  rw [v2B, gnB, corB, aB, iblk2_at]
  rfl
theorem k8_v (h : Fin 8) (l : Fin 256) : (G8 m c (ix4 0 (tk t tt) ⟨24 + h.val, by omega⟩ l) : EReal)
    = a0 m c (tk t tt) ⟨24 + h.val, by omega⟩ l * a1 m c (tk t tt) ⟨24 + h.val, by omega⟩ := by
  rw [g8_eq]
  unfold outB
  rw [blk_v]
  unfold wD
  rw [d_at, iblk0_at, iblk1_at]
  rfl
theorem t1B : v1 (iblk m c 0 t) (cosT (iblk m c 6 t) (iblk m c 7 t)) (sinT (iblk m c 6 t) (iblk m c 7 t)) tt h l * iblk m c 2 t (ix4 0 tt h (lo l))
      * wW (iblk m c 1 t) (iblk m c 2 t) (iblk m c 3 t) (ix2 h tt)
    = Spec.t1 (a0 m c) (a1 m c) (a2 m c) (a3 m c) (a6 m c) (tk t tt) h l := by
  unfold Spec.t1
  rw [v1B, wB', iblk2_at]
  rfl
theorem t2B : v2 (iblk m c 0 t) (cosT (iblk m c 6 t) (iblk m c 7 t)) (sinT (iblk m c 6 t) (iblk m c 7 t)) tt h l * iblk m c 2 t (ix4 0 tt h (hi l))
      * wW (iblk m c 1 t) (iblk m c 2 t) (iblk m c 3 t) (ix2 h tt)
    = Spec.t2 (a0 m c) (a1 m c) (a2 m c) (a3 m c) (a6 m c) (tk t tt) h l := by
  unfold Spec.t2
  rw [v2B, wB', iblk2_at]
  rfl

/-- The four groups of sums. -/
theorem tm0 (s : Fin 8) : tm m c t 0 tt s l = Spec.t1 (a0 m c) (a1 m c) (a2 m c) (a3 m c) (a6 m c) (tk t tt) (hd 0 s) l
    + Spec.t1 (a0 m c) (a1 m c) (a2 m c) (a3 m c) (a6 m c) (tk t tt) (hd 1 s) l := by
  rw [← t1B, ← t1B]
  rfl
theorem tm1 (s : Fin 8) : tm m c t 1 tt s l = Spec.t2 (a0 m c) (a1 m c) (a2 m c) (a3 m c) (a6 m c) (tk t tt) (hd 0 s) l
    + Spec.t2 (a0 m c) (a1 m c) (a2 m c) (a3 m c) (a6 m c) (tk t tt) (hd 1 s) l := by
  rw [← t2B, ← t2B]
  rfl
theorem tm2 (s : Fin 8) : tm m c t 2 tt s l = Spec.t1 (a0 m c) (a1 m c) (a2 m c) (a3 m c) (a6 m c) (tk t tt) (hd 2 s) l := by
  rw [← t1B]
  rfl
theorem tm3 (s : Fin 8) : tm m c t 3 tt s l = Spec.t2 (a0 m c) (a1 m c) (a2 m c) (a3 m c) (a6 m c) (tk t tt) (hd 2 s) l := by
  rw [← t2B]
  rfl

theorem hd0 (s : Fin 8) : hd 0 s = ⟨s.val, by omega⟩ := Fin.ext (Nat.zero_add _)
theorem k9_0 : grad m c ![0, 1] (ix2 0 l) = ∑ T : Fin 2048, ∑ h : Fin 16, Spec.t1 (a0 m c) (a1 m c) (a2 m c) (a3 m c) (a6 m c) T ⟨h.val, by omega⟩ l := by
  rw [← Spec.sums16 cfg0.N n16 fun T h => Spec.t1 (a0 m c) (a1 m c) (a2 m c) (a3 m c) (a6 m c) T h l]
  exact Finset.sum_congr rfl fun s _ => Finset.sum_congr rfl fun k _ => Finset.sum_congr rfl fun tt _ => by
    refine (tm0 m c k tt l s).trans ?_
    rw [hd0]; rfl
theorem k9_1 : grad m c ![0, 1] (ix2 1 l) = ∑ T : Fin 2048, ∑ h : Fin 16, Spec.t2 (a0 m c) (a1 m c) (a2 m c) (a3 m c) (a6 m c) T ⟨h.val, by omega⟩ l := by
  rw [← Spec.sums16 cfg0.N n16 fun T h => Spec.t2 (a0 m c) (a1 m c) (a2 m c) (a3 m c) (a6 m c) T h l]
  exact Finset.sum_congr rfl fun s _ => Finset.sum_congr rfl fun k _ => Finset.sum_congr rfl fun tt _ => by
    refine (tm1 m c k tt l s).trans ?_
    rw [hd0]; rfl
theorem k10_0 : grad m c ![2, 3] (ix2 0 l) = ∑ T : Fin 2048, ∑ h : Fin 8, Spec.t1 (a0 m c) (a1 m c) (a2 m c) (a3 m c) (a6 m c) T ⟨16 + h.val, by omega⟩ l := by
  rw [← Spec.sums8 cfg0.N n16 fun T h => Spec.t1 (a0 m c) (a1 m c) (a2 m c) (a3 m c) (a6 m c) T h l]
  exact Finset.sum_congr rfl fun s _ => Finset.sum_congr rfl fun k _ => Finset.sum_congr rfl fun tt _ => tm2 m c k tt l s
theorem k10_1 : grad m c ![2, 3] (ix2 1 l) = ∑ T : Fin 2048, ∑ h : Fin 8, Spec.t2 (a0 m c) (a1 m c) (a2 m c) (a3 m c) (a6 m c) T ⟨16 + h.val, by omega⟩ l := by
  rw [← Spec.sums8 cfg0.N n16 fun T h => Spec.t2 (a0 m c) (a1 m c) (a2 m c) (a3 m c) (a6 m c) T h l]
  exact Finset.sum_congr rfl fun s _ => Finset.sum_congr rfl fun k _ => Finset.sum_congr rfl fun tt _ => tm3 m c k tt l s

end Cert.KernelIdeal.Tok
end
-- ==== Proof.RefRun.lean ====
/- The reference's run, its three arrays after the run named. -/
module

public import proofs.«01_k».proof.Proof.Gen.ReferenceIdeal.Frame
public import Idealize.ShloMosaic.Lib.Pipeline.Value
public import Idealize.ShloMosaic.Lib.Pointwise
public import Idealize.ShloMosaic.Lib.Pipeline.ValueKit
public import Idealize.ShloMosaic.Lib.VecWindow

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S1x2048x32x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2x128.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S2x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v11_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v11_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v11_2) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 8 cfg0.N
      ∧ r.2.mem ((c : Thread nD τ).loc main_v11_1) = (dats m 0 c).arrAt 9 cfg0.N
      ∧ r.2.mem ((c : Thread nD τ).loc main_v11_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Value

namespace Cert.ReferenceIdeal.Ref

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![0, 0, 0, 0] := by decide +kernel
theorem idx1 : ∀ t : Fin cfg0.N, win0_1.index t = ![0, 0, 0] := by decide +kernel
theorem idx2 : ∀ t : Fin cfg0.N, win0_2.index t = ![0, 0, 0, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0, 0, 0] := by decide +kernel
theorem idx9 : ∀ t : Fin cfg0.N, win0_9.index t = ![0, 0] := by decide +kernel
theorem idx10 : ∀ t : Fin cfg0.N, win0_10.index t = ![0, 0] := by decide +kernel
theorem emb0 (t : Fin cfg0.N) (i : S1x2048x32x256.Idx) : ((cfg0.win 0).blk t).view.emb i = i := by
  funext a; apply Fin.ext
  match a with
  | ⟨0, _⟩ => show win0_0.index t (0 : Fin 4) * 1 + 1 * (i 0).val = (i 0).val; rw [idx0 t]; show 0 * 1 + 1 * (i 0).val = (i 0).val; omega
  | ⟨1, _⟩ => show win0_0.index t (1 : Fin 4) * 2048 + 1 * (i 1).val = (i 1).val; rw [idx0 t]; show 0 * 2048 + 1 * (i 1).val = (i 1).val; omega
  | ⟨2, _⟩ => show win0_0.index t (2 : Fin 4) * 32 + 1 * (i 2).val = (i 2).val; rw [idx0 t]; show 0 * 32 + 1 * (i 2).val = (i 2).val; omega
  | ⟨3, _⟩ => show win0_0.index t (3 : Fin 4) * 256 + 1 * (i 3).val = (i 3).val; rw [idx0 t]; show 0 * 256 + 1 * (i 3).val = (i 3).val; omega
theorem iblk0_eq (t : Fin cfg0.N) : iblk m c 0 t = m ((c : Thread nD τ).loc main_arg0) := by
  funext i
  show V m c main_arg0 (((cfg0.win 0).blk t).view.emb i) = _
  rw [emb0]; exact congrFun (V_main_arg0 m c) i
theorem emb1 (t : Fin cfg0.N) (i : S1x2048x32.Idx) : ((cfg0.win 1).blk t).view.emb i = i := by
  funext a; apply Fin.ext
  match a with
  | ⟨0, _⟩ => show win0_1.index t (0 : Fin 3) * 1 + 1 * (i 0).val = (i 0).val; rw [idx1 t]; show 0 * 1 + 1 * (i 0).val = (i 0).val; omega
  | ⟨1, _⟩ => show win0_1.index t (1 : Fin 3) * 2048 + 1 * (i 1).val = (i 1).val; rw [idx1 t]; show 0 * 2048 + 1 * (i 1).val = (i 1).val; omega
  | ⟨2, _⟩ => show win0_1.index t (2 : Fin 3) * 32 + 1 * (i 2).val = (i 2).val; rw [idx1 t]; show 0 * 32 + 1 * (i 2).val = (i 2).val; omega
theorem iblk1_eq (t : Fin cfg0.N) : iblk m c 1 t = m ((c : Thread nD τ).loc main_arg1) := by
  funext i
  show V m c main_arg1 (((cfg0.win 1).blk t).view.emb i) = _
  rw [emb1]; exact congrFun (V_main_arg1 m c) i
theorem emb2 (t : Fin cfg0.N) (i : S1x2048x24x256.Idx) : ((cfg0.win 2).blk t).view.emb i = i := by
  funext a; apply Fin.ext
  match a with
  | ⟨0, _⟩ => show win0_2.index t (0 : Fin 4) * 1 + 1 * (i 0).val = (i 0).val; rw [idx2 t]; show 0 * 1 + 1 * (i 0).val = (i 0).val; omega
  | ⟨1, _⟩ => show win0_2.index t (1 : Fin 4) * 2048 + 1 * (i 1).val = (i 1).val; rw [idx2 t]; show 0 * 2048 + 1 * (i 1).val = (i 1).val; omega
  | ⟨2, _⟩ => show win0_2.index t (2 : Fin 4) * 24 + 1 * (i 2).val = (i 2).val; rw [idx2 t]; show 0 * 24 + 1 * (i 2).val = (i 2).val; omega
  | ⟨3, _⟩ => show win0_2.index t (3 : Fin 4) * 256 + 1 * (i 3).val = (i 3).val; rw [idx2 t]; show 0 * 256 + 1 * (i 3).val = (i 3).val; omega
theorem iblk2_eq (t : Fin cfg0.N) : iblk m c 2 t = m ((c : Thread nD τ).loc main_arg2) := by
  funext i
  show V m c main_arg2 (((cfg0.win 2).blk t).view.emb i) = _
  rw [emb2]; exact congrFun (V_main_arg2 m c) i
theorem emb3 (t : Fin cfg0.N) (i : S1x2048x24.Idx) : ((cfg0.win 3).blk t).view.emb i = i := by
  funext a; apply Fin.ext
  match a with
  | ⟨0, _⟩ => show win0_3.index t (0 : Fin 3) * 1 + 1 * (i 0).val = (i 0).val; rw [idx3 t]; show 0 * 1 + 1 * (i 0).val = (i 0).val; omega
  | ⟨1, _⟩ => show win0_3.index t (1 : Fin 3) * 2048 + 1 * (i 1).val = (i 1).val; rw [idx3 t]; show 0 * 2048 + 1 * (i 1).val = (i 1).val; omega
  | ⟨2, _⟩ => show win0_3.index t (2 : Fin 3) * 24 + 1 * (i 2).val = (i 2).val; rw [idx3 t]; show 0 * 24 + 1 * (i 2).val = (i 2).val; omega
theorem iblk3_eq (t : Fin cfg0.N) : iblk m c 3 t = m ((c : Thread nD τ).loc main_arg3) := by
  funext i
  show V m c main_arg3 (((cfg0.win 3).blk t).view.emb i) = _
  rw [emb3]; exact congrFun (V_main_arg3 m c) i
theorem emb4 (t : Fin cfg0.N) (i : S2x128.Idx) : ((cfg0.win 4).blk t).view.emb i = i := by
  funext a; apply Fin.ext
  match a with
  | ⟨0, _⟩ => show win0_4.index t (0 : Fin 2) * 2 + 1 * (i 0).val = (i 0).val; rw [idx4 t]; show 0 * 2 + 1 * (i 0).val = (i 0).val; omega
  | ⟨1, _⟩ => show win0_4.index t (1 : Fin 2) * 128 + 1 * (i 1).val = (i 1).val; rw [idx4 t]; show 0 * 128 + 1 * (i 1).val = (i 1).val; omega
theorem iblk4_eq (t : Fin cfg0.N) : iblk m c 4 t = V m c main_v0 := by
  funext i
  show V m c main_v0 (((cfg0.win 4).blk t).view.emb i) = _
  rw [emb4]
theorem emb5 (t : Fin cfg0.N) (i : S2x128.Idx) : ((cfg0.win 5).blk t).view.emb i = i := by
  funext a; apply Fin.ext
  match a with
  | ⟨0, _⟩ => show win0_5.index t (0 : Fin 2) * 2 + 1 * (i 0).val = (i 0).val; rw [idx5 t]; show 0 * 2 + 1 * (i 0).val = (i 0).val; omega
  | ⟨1, _⟩ => show win0_5.index t (1 : Fin 2) * 128 + 1 * (i 1).val = (i 1).val; rw [idx5 t]; show 0 * 128 + 1 * (i 1).val = (i 1).val; omega
theorem iblk5_eq (t : Fin cfg0.N) : iblk m c 5 t = V m c main_v1 := by
  funext i
  show V m c main_v1 (((cfg0.win 5).blk t).view.emb i) = _
  rw [emb5]
theorem emb6 (t : Fin cfg0.N) (i : S1x2048.Idx) : ((cfg0.win 6).blk t).view.emb i = i := by
  funext a; apply Fin.ext
  match a with
  | ⟨0, _⟩ => show win0_6.index t (0 : Fin 2) * 1 + 1 * (i 0).val = (i 0).val; rw [idx6 t]; show 0 * 1 + 1 * (i 0).val = (i 0).val; omega
  | ⟨1, _⟩ => show win0_6.index t (1 : Fin 2) * 2048 + 1 * (i 1).val = (i 1).val; rw [idx6 t]; show 0 * 2048 + 1 * (i 1).val = (i 1).val; omega
theorem iblk6_eq (t : Fin cfg0.N) : iblk m c 6 t = m ((c : Thread nD τ).loc main_arg6) := by
  funext i
  show V m c main_arg6 (((cfg0.win 6).blk t).view.emb i) = _
  rw [emb6]; exact congrFun (V_main_arg6 m c) i
theorem emb7 (t : Fin cfg0.N) (i : S1x128.Idx) : ((cfg0.win 7).blk t).view.emb i = i := by
  funext a; apply Fin.ext
  match a with
  | ⟨0, _⟩ => show win0_7.index t (0 : Fin 2) * 1 + 1 * (i 0).val = (i 0).val; rw [idx7 t]; show 0 * 1 + 1 * (i 0).val = (i 0).val; omega
  | ⟨1, _⟩ => show win0_7.index t (1 : Fin 2) * 128 + 1 * (i 1).val = (i 1).val; rw [idx7 t]; show 0 * 128 + 1 * (i 1).val = (i 1).val; omega
theorem iblk7_eq (t : Fin cfg0.N) : iblk m c 7 t = V m c main_v10 := by
  funext i
  show V m c main_v10 (((cfg0.win 7).blk t).view.emb i) = _
  rw [emb7]
theorem emb8 (t : Fin cfg0.N) (i : S1x2048x32x256.Idx) : ((cfg0.win 8).blk t).view.emb i = i := by
  funext a; apply Fin.ext
  match a with
  | ⟨0, _⟩ => show win0_8.index t (0 : Fin 4) * 1 + 1 * (i 0).val = (i 0).val; rw [idx8 t]; show 0 * 1 + 1 * (i 0).val = (i 0).val; omega
  | ⟨1, _⟩ => show win0_8.index t (1 : Fin 4) * 2048 + 1 * (i 1).val = (i 1).val; rw [idx8 t]; show 0 * 2048 + 1 * (i 1).val = (i 1).val; omega
  | ⟨2, _⟩ => show win0_8.index t (2 : Fin 4) * 32 + 1 * (i 2).val = (i 2).val; rw [idx8 t]; show 0 * 32 + 1 * (i 2).val = (i 2).val; omega
  | ⟨3, _⟩ => show win0_8.index t (3 : Fin 4) * 256 + 1 * (i 3).val = (i 3).val; rw [idx8 t]; show 0 * 256 + 1 * (i 3).val = (i 3).val; omega
theorem emb9 (t : Fin cfg0.N) (i : S2x128.Idx) : ((cfg0.win 9).blk t).view.emb i = i := by
  funext a; apply Fin.ext
  match a with
  | ⟨0, _⟩ => show win0_9.index t (0 : Fin 2) * 2 + 1 * (i 0).val = (i 0).val; rw [idx9 t]; show 0 * 2 + 1 * (i 0).val = (i 0).val; omega
  | ⟨1, _⟩ => show win0_9.index t (1 : Fin 2) * 128 + 1 * (i 1).val = (i 1).val; rw [idx9 t]; show 0 * 128 + 1 * (i 1).val = (i 1).val; omega
theorem emb10 (t : Fin cfg0.N) (i : S2x128.Idx) : ((cfg0.win 10).blk t).view.emb i = i := by
  funext a; apply Fin.ext
  match a with
  | ⟨0, _⟩ => show win0_10.index t (0 : Fin 2) * 2 + 1 * (i 0).val = (i 0).val; rw [idx10 t]; show 0 * 2 + 1 * (i 0).val = (i 0).val; omega
  | ⟨1, _⟩ => show win0_10.index t (1 : Fin 2) * 128 + 1 * (i 1).val = (i 1).val; rw [idx10 t]; show 0 * 128 + 1 * (i 1).val = (i 1).val; omega
/-- The only grid point. -/
def t0 : Fin cfg0.N := ⟨0, by decide⟩
theorem arr8 : (dats m 0 c).arrAt 8 cfg0.N = out0_8 (F := Ideal) (m ((c : Thread nD τ).loc main_arg0)) (m ((c : Thread nD τ).loc main_arg1)) (m ((c : Thread nD τ).loc main_arg2)) (m ((c : Thread nD τ).loc main_arg3)) (V m c main_v0) (V m c main_v1) (m ((c : Thread nD τ).loc main_arg6)) (V m c main_v10) := by
  have b := blocks8 m c t0 (by decide)
  rw [flushed8, iblk0_eq, iblk1_eq, iblk2_eq, iblk3_eq, iblk4_eq, iblk5_eq, iblk6_eq, iblk7_eq] at b
  funext i
  have e := congrFun b i
  have q := emb8 t0 i
  exact (congrArg (fun z : S1x2048x32x256.Idx => (dats m 0 c).arrAt 8 cfg0.N z) q).symm.trans e
theorem arr9 : (dats m 0 c).arrAt 9 cfg0.N = out0_9 (F := Ideal) (m ((c : Thread nD τ).loc main_arg0)) (m ((c : Thread nD τ).loc main_arg1)) (m ((c : Thread nD τ).loc main_arg2)) (m ((c : Thread nD τ).loc main_arg3)) (V m c main_v0) (V m c main_v1) (m ((c : Thread nD τ).loc main_arg6)) (V m c main_v10) := by
  have b := blocks9 m c t0 (by decide)
  rw [flushed9, iblk0_eq, iblk1_eq, iblk2_eq, iblk3_eq, iblk4_eq, iblk5_eq, iblk6_eq, iblk7_eq] at b
  funext i
  have e := congrFun b i
  have q := emb9 t0 i
  exact (congrArg (fun z : S2x128.Idx => (dats m 0 c).arrAt 9 cfg0.N z) q).symm.trans e
theorem arr10 : (dats m 0 c).arrAt 10 cfg0.N = out0_10 (F := Ideal) (m ((c : Thread nD τ).loc main_arg0)) (m ((c : Thread nD τ).loc main_arg1)) (m ((c : Thread nD τ).loc main_arg2)) (m ((c : Thread nD τ).loc main_arg3)) (V m c main_v0) (V m c main_v1) (m ((c : Thread nD τ).loc main_arg6)) (V m c main_v10) := by
  have b := blocks10 m c t0 (by decide)
  rw [flushed10, iblk0_eq, iblk1_eq, iblk2_eq, iblk3_eq, iblk4_eq, iblk5_eq, iblk6_eq, iblk7_eq] at b
  funext i
  have e := congrFun b i
  have q := emb10 t0 i
  exact (congrArg (fun z : S2x128.Idx => (dats m 0 c).arrAt 10 cfg0.N z) q).symm.trans e

end Cert.ReferenceIdeal.Ref

end
-- ==== Proof.RefTab.lean ====
/- The reference's tables at one token and lane. -/
module

public import proofs.«01_k».proof.Proof.RefRun
public import proofs.«01_k».proof.Proof.Tab

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.SL.Sem
open Cert.Tab (nr rst sg pc ps rsel ang)

section Pay
variable (x6 : Vec Ideal S1x2048 .i32) (x7 : Vec Ideal S1x128 .f32) (t : Fin 2048) (l : Fin 128)

/-- The angle, as the product of a position and a frequency. -/
def an : EReal := FloatOps.sitofp (F := Ideal) .f32 (x6 (ix2 0 t)) * x7 (ix2 0 l)

theorem n_at : (k0_pay3 x6 x7 (ix3 0 t l) : EReal) = nr (an x6 x7 t l) := by
  unfold an nr
  pointwise [k0_pay2, k0_pay3]
theorem rest_at : (k0_pay4 x6 x7 (ix3 0 t l) : EReal) = rst (an x6 x7 t l) := by
  unfold rst
  rw [← n_at]
  unfold an
  pointwise [k0_pay2, k0_pay4]
theorem z_at : (k0_pay5 x6 x7 (ix3 0 t l) : EReal) = rst (an x6 x7 t l) * rst (an x6 x7 t l) := by
  rw [← rest_at]
  pointwise [k0_pay5]
/-- The cosines. -/
def cosR : FVec Ideal S1x2048x1x128 .f32 := k0_pay13 (k0_pay3 x6 x7) (k0_pay5 x6 x7) (k0_pay7 x6 x7) (k0_pay8 x6 x7)
/-- The sines. -/
def sinR : FVec Ideal S1x2048x1x128 .f32 := k0_pay14 (k0_pay3 x6 x7) (k0_pay4 x6 x7) (k0_pay5 x6 x7) (k0_pay7 x6 x7) (k0_pay9 x6 x7)
theorem cosR_at : (cosR x6 x7 (ix4 0 t 0 l) : EReal) = rsel (sg (an x6 x7 t l)) * pc (rst (an x6 x7 t l) * rst (an x6 x7 t l)) := by
  unfold cosR pc rsel sg
  rw [← z_at, ← n_at]
  pointwise [k0_pay6, k0_pay7, k0_pay8, k0_pay10, k0_pay11, k0_pay12, k0_pay13]
theorem sinR_at : (sinR x6 x7 (ix4 0 t 0 l) : EReal) = rsel (sg (an x6 x7 t l)) * (rst (an x6 x7 t l) * ps (rst (an x6 x7 t l) * rst (an x6 x7 t l))) := by
  unfold sinR ps rsel sg
  rw [← z_at, ← n_at, ← rest_at]
  pointwise [k0_pay6, k0_pay7, k0_pay9, k0_pay10, k0_pay11, k0_pay12, k0_pay14]
end Pay

end Cert.ReferenceIdeal.Ref
end
-- ==== Proof.RefVal.lean ====
/- The reference's three results, index by index. -/
module

public import proofs.«01_k».proof.Proof.RefTab
public import proofs.«01_k».proof.Proof.Alg

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.SL.Sem
open Cert.Tab (nr rst sg pc ps rsel ang)

/-- A query or key head among all heads. -/
def up (h : Fin 24) : Fin 32 := ⟨h.val, by omega⟩
/-- Lane `l` of the first half. -/
def lo (l : Fin 128) : Fin 256 := ⟨l.val, by omega⟩
/-- Lane `l` of the second half. -/
def hi (l : Fin 128) : Fin 256 := ⟨128 + l.val, by omega⟩

section Arrays
variable (x0 : Vec Ideal S1x2048x32x256 .fp8e5m2) (x1 : Vec Ideal S1x2048x32 .f32) (x2 : Vec Ideal S1x2048x24x256 .fp8e4m3) (x3 : Vec Ideal S1x2048x24 .f32)
  (x4 x5 : Vec Ideal S2x128 .f32) (x6 : Vec Ideal S1x2048 .i32) (x7 : Vec Ideal S1x128 .f32)
variable (t : Fin 2048) (h : Fin 24) (l : Fin 128)

theorem ld0 : View.ld x6 r0_0 = x6 := View.ld_unit_lit _ x6 (by decide)
theorem ld1 : View.ld x7 r0_1 = x7 := View.ld_unit_lit _ x7 (by decide)
theorem ld2 : View.ld x1 r0_2 = x1 := View.ld_unit_lit _ x1 (by decide)
theorem ld3 : View.ld x0 r0_3 = x0 := View.ld_unit_lit _ x0 (by decide)
theorem ld4 : View.ld x3 r0_4 = x3 := View.ld_unit_lit _ x3 (by decide)
theorem ld5 : View.ld x2 r0_5 = x2 := View.ld_unit_lit _ x2 (by decide)
theorem ld6 : (View.ld x4 r0_6 (ix2 0 l) : EReal) = x4 (ix2 0 l) := by
  refine congrArg x4 ?_
  funext a; apply Fin.ext
  match a with
  | ⟨0, _⟩ => rfl
  | ⟨1, _⟩ => show 0 + 1 * l.val = l.val; omega
theorem ld7 : (View.ld x4 r0_7 (ix2 0 l) : EReal) = x4 (ix2 1 l) := by
  refine congrArg x4 ?_
  funext a; apply Fin.ext
  match a with
  | ⟨0, _⟩ => rfl
  | ⟨1, _⟩ => show 0 + 1 * l.val = l.val; omega

/-- The gradients with respect to the normalized rows, by halves. -/
def dn1 : FVec Ideal S1x2048x24x128 .f32 := k0_pay21 (cosR x6 x7) (sinR x6 x7) (k0_pay16 x1 x0) (k0_pay17 x1 x0)
def dn2 : FVec Ideal S1x2048x24x128 .f32 := k0_pay22 (cosR x6 x7) (sinR x6 x7) (k0_pay16 x1 x0) (k0_pay17 x1 x0)

theorem dn1_at : (dn1 x0 x1 x6 x7 (ix4 0 t h l) : EReal)
    = x0 (ix4 0 t (up h) (lo l)) * x1 (ix3 0 t (up h)) * cosR x6 x7 (ix4 0 t 0 l) + x0 (ix4 0 t (up h) (hi l)) * x1 (ix3 0 t (up h)) * sinR x6 x7 (ix4 0 t 0 l) := by
  unfold dn1 up lo hi
  pointwise [k0_pay15, k0_pay16, k0_pay17, k0_pay21]
theorem dn2_at : (dn2 x0 x1 x6 x7 (ix4 0 t h l) : EReal)
    = x0 (ix4 0 t (up h) (hi l)) * x1 (ix3 0 t (up h)) * cosR x6 x7 (ix4 0 t 0 l) - x0 (ix4 0 t (up h) (lo l)) * x1 (ix3 0 t (up h)) * sinR x6 x7 (ix4 0 t 0 l) := by
  unfold dn2 up lo hi
  pointwise [k0_pay15, k0_pay16, k0_pay17, k0_pay22]
theorem rstd_at : (k0_pay23 x3 x2 (ix4 0 t h 0) : EReal)
    = Ideal.rsqrt (Ideal.div ((∑ i : Fin 128, x2 (ix4 0 t h (lo i)) * x3 (ix3 0 t h) * (x2 (ix4 0 t h (lo i)) * x3 (ix3 0 t h)))
        + ∑ i : Fin 128, x2 (ix4 0 t h (hi i)) * x3 (ix3 0 t h) * (x2 (ix4 0 t h (hi i)) * x3 (ix3 0 t h))) (Ideal.ofBits .f32 0x43800000#32)
      + Ideal.ofBits .f32 0x358637BD#32) := by
  unfold lo hi
  pointwise [k0_pay18, k0_pay19, k0_pay20, k0_pay23]
theorem xh1_at : (k0_pay24 x3 x2 (ix4 0 t h l) : EReal) = x2 (ix4 0 t h (lo l)) * x3 (ix3 0 t h) * k0_pay23 x3 x2 (ix4 0 t h 0) := by
  unfold lo
  pointwise [k0_pay18, k0_pay19, k0_pay24]
theorem xh2_at : (k0_pay25 x3 x2 (ix4 0 t h l) : EReal) = x2 (ix4 0 t h (hi l)) * x3 (ix3 0 t h) * k0_pay23 x3 x2 (ix4 0 t h 0) := by
  unfold hi
  pointwise [k0_pay18, k0_pay20, k0_pay25]

/-- The gain of a head: queries come first. -/
def gn (g k : Fin 128 → EReal) (h : Fin 24) (l : Fin 128) : EReal := if h.val < 16 then g l else k l

theorem slt16 : ∀ h : Fin 24, IntOp.cmpi .slt (BitVec.ofNat 32 h.val) 16#32 = if h.val < 16 then 1#1 else 0#1 := by decide
theorem gain_sel (g k : EReal) : Scalar.select (IntOp.cmpi .slt (BitVec.ofNat 32 h.val) 16#32) g k = if h.val < 16 then g else k := by
  rw [slt16]
  unfold Scalar.select
  by_cases hh : h.val < 16
  · rw [if_pos hh, if_pos hh]; exact if_pos (by decide)
  · rw [if_neg hh, if_neg hh]; exact if_neg (by decide)

theorem dg1_at (a : FVec Ideal S1x2048x24x128 .f32) :
    (k0_pay34 a (View.ld x4 r0_6) (View.ld x5 r0_6) (ix4 0 t h l) : EReal) = a (ix4 0 t h l) * gn (fun l => x4 (ix2 0 l)) (fun l => x5 (ix2 0 l)) h l := by
  unfold gn
  dsimp only
  rw [← ld6 x4, ← ld6 x5, ← gain_sel]
  pointwise [k0_pay33, k0_pay34]
theorem dg2_at (a : FVec Ideal S1x2048x24x128 .f32) :
    (k0_pay35 a (View.ld x4 r0_7) (View.ld x5 r0_7) (ix4 0 t h l) : EReal) = a (ix4 0 t h l) * gn (fun l => x4 (ix2 1 l)) (fun l => x5 (ix2 1 l)) h l := by
  unfold gn
  dsimp only
  rw [← ld7 x4, ← ld7 x5, ← gain_sel]
  pointwise [k0_pay33, k0_pay35]
theorem m1_at (a b : FVec Ideal S1x2048x24x128 .f32) :
    (k0_pay36 a b (View.ld x4 r0_6) (View.ld x5 r0_6) (ix3 0 t h) : EReal)
      = ∑ i : Fin 128, k0_pay34 a (View.ld x4 r0_6) (View.ld x5 r0_6) (ix4 0 t h i) * b (ix4 0 t h i) := by
  pointwise [k0_pay36]

section Out
variable (R : FVec Ideal S1x2048x24x1 .f32) (X1 X2 G1 G2 : FVec Ideal S1x2048x24x128 .f32) (M : FVec Ideal S1x2048x24 .f32)
theorem out_lo : (k0_pay1 x1 x0 R X1 X2 G1 G2 M (ix4 0 t (up h) (lo l)) : EReal)
    = R (ix4 0 t h 0) * (G1 (ix4 0 t h l) - X1 (ix4 0 t h l) * Ideal.div (M (ix3 0 t h) + ∑ i : Fin 128, G2 (ix4 0 t h i) * X2 (ix4 0 t h i)) (Ideal.ofBits .f32 0x43800000#32)) := by
  unfold up lo
  pointwise [k0_pay1]
theorem out_hi : (k0_pay1 x1 x0 R X1 X2 G1 G2 M (ix4 0 t (up h) (hi l)) : EReal)
    = R (ix4 0 t h 0) * (G2 (ix4 0 t h l) - X2 (ix4 0 t h l) * Ideal.div (M (ix3 0 t h) + ∑ i : Fin 128, G2 (ix4 0 t h i) * X2 (ix4 0 t h i)) (Ideal.ofBits .f32 0x43800000#32)) := by
  unfold up hi
  pointwise [k0_pay1]
theorem out_v (h : Fin 8) (l : Fin 256) : (k0_pay1 x1 x0 R X1 X2 G1 G2 M (ix4 0 t ⟨24 + h.val, by omega⟩ l) : EReal)
    = x0 (ix4 0 t ⟨24 + h.val, by omega⟩ l) * x1 (ix3 0 t ⟨24 + h.val, by omega⟩) := by
  pointwise [k0_pay1]
end Out

/-- The terms of a gain's gradient, by halves. -/
def dx1 : FVec Ideal S1x2048x24x128 .f32 := k0_pay26 (cosR x6 x7) (sinR x6 x7) (k0_pay16 x1 x0) (k0_pay17 x1 x0) x3 x2
def dx2 : FVec Ideal S1x2048x24x128 .f32 := k0_pay27 (cosR x6 x7) (sinR x6 x7) (k0_pay16 x1 x0) (k0_pay17 x1 x0) x3 x2
theorem dx1_at : (dx1 x0 x1 x2 x3 x6 x7 (ix4 0 t h l) : EReal) = dn1 x0 x1 x6 x7 (ix4 0 t h l) * k0_pay24 x3 x2 (ix4 0 t h l) := by
  unfold dx1 dn1
  pointwise [k0_pay26]
theorem dx2_at : (dx2 x0 x1 x2 x3 x6 x7 (ix4 0 t h l) : EReal) = dn2 x0 x1 x6 x7 (ix4 0 t h l) * k0_pay25 x3 x2 (ix4 0 t h l) := by
  unfold dx2 dn2
  pointwise [k0_pay27]

/-- A sum over batch, tokens and heads is a sum over tokens and heads. -/
theorem fold {A n B : ℕ} (h : (⟨4, ![1, A, n, B]⟩ : Shape).Reduces [0, 1, 2] ⟨1, ![B]⟩) (v : (⟨4, ![1, A, n, B]⟩ : Shape).Idx → EReal) (l : Fin B) :
    Ideal.reduceAdd h v (ix1 l) = ∑ t : Fin A, ∑ k : Fin n, v (ix4 0 t k l) := by
  rw [← Fintype.sum_prod_type' (f := fun (t : Fin A) (k : Fin n) => v (ix4 0 t k l))]
  refine Finset.sum_bij' (fun i _ => ((i 1 : Fin A), (i 2 : Fin n))) (fun p _ => ix4 0 p.1 p.2 l) (fun _ _ => Finset.mem_univ _) ?_ ?_ (fun _ _ => rfl) ?_
  · intro p _
    refine Finset.mem_filter.mpr ⟨Finset.mem_univ _, ?_⟩
    funext b; apply Fin.ext
    match b with
    | ⟨0, _⟩ => exact Shape.Reduces.drop_apply_val_of_eq h (ix4 0 p.1 p.2 l) 0 3 Nat.zero_lt_one rfl
  · intro i hi
    have e := (Finset.mem_filter.mp hi).2
    have e3 : (i 3).val = l.val := (Shape.Reduces.drop_apply_val_of_eq h i 0 3 Nat.zero_lt_one rfl).symm.trans (congrArg Fin.val (congrFun e 0))
    have e0 : (i 0).val = 0 := Nat.lt_one_iff.mp (i 0).isLt
    funext a; apply Fin.ext
    match a with
    | ⟨0, _⟩ => exact e0.symm
    | ⟨1, _⟩ => rfl
    | ⟨2, _⟩ => rfl
    | ⟨3, _⟩ => exact e3.symm
  · intro i hi
    have e := (Finset.mem_filter.mp hi).2
    have e3 : (i 3).val = l.val := (Shape.Reduces.drop_apply_val_of_eq h i 0 3 Nat.zero_lt_one rfl).symm.trans (congrArg Fin.val (congrFun e 0))
    have e0 : (i 0).val = 0 := Nat.lt_one_iff.mp (i 0).isLt
    refine congrArg v ?_
    funext a; apply Fin.ext
    match a with
    | ⟨0, _⟩ => exact e0
    | ⟨1, _⟩ => rfl
    | ⟨2, _⟩ => rfl
    | ⟨3, _⟩ => exact e3

theorem q1_at : (k0_pay28 (cosR x6 x7) (sinR x6 x7) (k0_pay16 x1 x0) (k0_pay17 x1 x0) x3 x2 (ix2 0 l) : EReal)
    = ∑ t : Fin 2048, ∑ h : Fin 16, dx1 x0 x1 x2 x3 x6 x7 (ix4 0 t ⟨h.val, by omega⟩ l) := by
  unfold dx1
  pointwise [k0_pay28]
  refine (fold reduces_S1x2048x16x128_S128 _ l).trans (Finset.sum_congr rfl fun t _ => Finset.sum_congr rfl fun h _ => ?_)
  pointwise
theorem q2_at : (k0_pay30 (k0_pay29 (cosR x6 x7) (sinR x6 x7) (k0_pay16 x1 x0) (k0_pay17 x1 x0) x3 x2) (ix2 0 l) : EReal)
    = ∑ t : Fin 2048, ∑ h : Fin 16, dx2 x0 x1 x2 x3 x6 x7 (ix4 0 t ⟨h.val, by omega⟩ l) := by
  unfold dx2
  pointwise [k0_pay29, k0_pay30]
  refine (fold reduces_S1x2048x16x128_S128 _ l).trans (Finset.sum_congr rfl fun t _ => Finset.sum_congr rfl fun h _ => ?_)
  pointwise
theorem k1_at (D : FVec Ideal S1x2048x24x128 .f32) : (k0_pay31 D (ix2 0 l) : EReal) = ∑ t : Fin 2048, ∑ h : Fin 8, D (ix4 0 t ⟨16 + h.val, by omega⟩ l) := by
  pointwise [k0_pay31]
  refine (fold reduces_S1x2048x8x128_S128 _ l).trans (Finset.sum_congr rfl fun t _ => Finset.sum_congr rfl fun h _ => ?_)
  pointwise
theorem k2_at (D : FVec Ideal S1x2048x24x128 .f32) : (k0_pay32 D (ix2 0 l) : EReal) = ∑ t : Fin 2048, ∑ h : Fin 8, D (ix4 0 t ⟨16 + h.val, by omega⟩ l) := by
  pointwise [k0_pay32]
  refine (fold reduces_S1x2048x8x128_S128 _ l).trans (Finset.sum_congr rfl fun t _ => Finset.sum_congr rfl fun h _ => ?_)
  pointwise

/-- The reference's first result, in the first half of a query or key head. -/
theorem o8_lo : (out0_8 (F := Ideal) x0 x1 x2 x3 x4 x5 x6 x7 (ix4 0 t (up h) (lo l)) : EReal)
    = k0_pay23 x3 x2 (ix4 0 t h 0) * (dn1 x0 x1 x6 x7 (ix4 0 t h l) * gn (fun l => x4 (ix2 0 l)) (fun l => x5 (ix2 0 l)) h l
      - k0_pay24 x3 x2 (ix4 0 t h l) * Ideal.div (
        (∑ i : Fin 128, dn1 x0 x1 x6 x7 (ix4 0 t h i) * gn (fun l => x4 (ix2 0 l)) (fun l => x5 (ix2 0 l)) h i * k0_pay24 x3 x2 (ix4 0 t h i))
        + ∑ i : Fin 128, dn2 x0 x1 x6 x7 (ix4 0 t h i) * gn (fun l => x4 (ix2 1 l)) (fun l => x5 (ix2 1 l)) h i * k0_pay25 x3 x2 (ix4 0 t h i)) (Ideal.ofBits .f32 0x43800000#32)) := by
  unfold_out out0_8
  rw [View.canon_cons_unit_lit _ _ _ (by decide), ld0, ld1, ld2, ld3, ld4, ld5]
  refine (out_lo x0 x1 t h l _ _ _ _ _ _).trans ?_
  rw [m1_at, dg1_at]
  simp only [dg1_at, dg2_at]
  rfl
/-- The same in the second half. -/
theorem o8_hi : (out0_8 (F := Ideal) x0 x1 x2 x3 x4 x5 x6 x7 (ix4 0 t (up h) (hi l)) : EReal)
    = k0_pay23 x3 x2 (ix4 0 t h 0) * (dn2 x0 x1 x6 x7 (ix4 0 t h l) * gn (fun l => x4 (ix2 1 l)) (fun l => x5 (ix2 1 l)) h l
      - k0_pay25 x3 x2 (ix4 0 t h l) * Ideal.div (
        (∑ i : Fin 128, dn1 x0 x1 x6 x7 (ix4 0 t h i) * gn (fun l => x4 (ix2 0 l)) (fun l => x5 (ix2 0 l)) h i * k0_pay24 x3 x2 (ix4 0 t h i))
        + ∑ i : Fin 128, dn2 x0 x1 x6 x7 (ix4 0 t h i) * gn (fun l => x4 (ix2 1 l)) (fun l => x5 (ix2 1 l)) h i * k0_pay25 x3 x2 (ix4 0 t h i)) (Ideal.ofBits .f32 0x43800000#32)) := by
  unfold_out out0_8
  rw [View.canon_cons_unit_lit _ _ _ (by decide), ld0, ld1, ld2, ld3, ld4, ld5]
  refine (out_hi x0 x1 t h l _ _ _ _ _ _).trans ?_
  rw [m1_at]
  simp only [dg1_at, dg2_at]
  rfl
/-- A value head is its codes times its scale. -/
theorem o8_v (h : Fin 8) (l : Fin 256) : (out0_8 (F := Ideal) x0 x1 x2 x3 x4 x5 x6 x7 (ix4 0 t ⟨24 + h.val, by omega⟩ l) : EReal)
    = x0 (ix4 0 t ⟨24 + h.val, by omega⟩ l) * x1 (ix3 0 t ⟨24 + h.val, by omega⟩) := by
  unfold_out out0_8
  rw [View.canon_cons_unit_lit _ _ _ (by decide), ld2, ld3]
  exact out_v x0 x1 t _ _ _ _ _ _ h l

/-- The gradients of the two gains, row by row. -/
def gq : FVec Ideal S2x128 .f32 := fun y =>
  if (y 0).val = 0 then ∑ t : Fin 2048, ∑ h : Fin 16, dx1 x0 x1 x2 x3 x6 x7 (ix4 0 t ⟨h.val, by omega⟩ (y 1))
  else ∑ t : Fin 2048, ∑ h : Fin 16, dx2 x0 x1 x2 x3 x6 x7 (ix4 0 t ⟨h.val, by omega⟩ (y 1))
def gk : FVec Ideal S2x128 .f32 := fun y =>
  if (y 0).val = 0 then ∑ t : Fin 2048, ∑ h : Fin 8, dx1 x0 x1 x2 x3 x6 x7 (ix4 0 t ⟨16 + h.val, by omega⟩ (y 1))
  else ∑ t : Fin 2048, ∑ h : Fin 8, dx2 x0 x1 x2 x3 x6 x7 (ix4 0 t ⟨16 + h.val, by omega⟩ (y 1))

theorem at0 (G : FVec Ideal S2x128 .f32) (w : FVec Ideal S1x128 .f32) (e : ∀ l : Fin 128, w (ix2 0 l) = G (ix2 0 l)) (x : S1x128.Idx) :
    w x = G (r0_6.emb x) := by
  have hx : x = ix2 0 (x 1) := by
    funext a; apply Fin.ext
    match a with
    | ⟨0, _⟩ => exact Nat.lt_one_iff.mp (x 0).isLt
    | ⟨1, _⟩ => rfl
  have he : r0_6.emb x = ix2 0 (x 1) := by
    funext a; apply Fin.ext
    match a with
    | ⟨0, _⟩ => show 0 + 1 * (x 0).val = 0; have := (x 0).isLt; change (x 0).val < 1 at this; omega
    | ⟨1, _⟩ => show 0 + 1 * (x 1).val = (x 1).val; omega
  exact (congrArg w hx).trans ((e (x 1)).trans (congrArg G he).symm)
theorem at1 (G : FVec Ideal S2x128 .f32) (w : FVec Ideal S1x128 .f32) (e : ∀ l : Fin 128, w (ix2 0 l) = G (ix2 1 l)) (x : S1x128.Idx) :
    w x = G (r0_7.emb x) := by
  have hx : x = ix2 0 (x 1) := by
    funext a; apply Fin.ext
    match a with
    | ⟨0, _⟩ => exact Nat.lt_one_iff.mp (x 0).isLt
    | ⟨1, _⟩ => rfl
  have he : r0_7.emb x = ix2 1 (x 1) := by
    funext a; apply Fin.ext
    match a with
    | ⟨0, _⟩ => show 1 + 1 * (x 0).val = 1; have := (x 0).isLt; change (x 0).val < 1 at this; omega
    | ⟨1, _⟩ => show 0 + 1 * (x 1).val = (x 1).val; omega
  exact (congrArg w hx).trans ((e (x 1)).trans (congrArg G he).symm)

/-- The reference's second result. -/
theorem o9_eq : (out0_9 (F := Ideal) x0 x1 x2 x3 x4 x5 x6 x7 : FVec Ideal S2x128 .f32) = gq x0 x1 x2 x3 x6 x7 := by
  funext y
  unfold_out out0_9
  rw [ld0, ld1, ld2, ld3, ld4, ld5]
  refine View.canon_apply_of_pieces (Val := Elt Ideal) (e := .f32) (gq x0 x1 x2 x3 x6 x7) _ ?_ y (cover0_9 _ _ y)
  intro pc hpc
  rcases List.mem_cons.mp hpc with rfl | hpc
  · exact at1 _ _ fun l => q2_at x0 x1 x2 x3 x6 x7 l
  rcases List.mem_cons.mp hpc with rfl | hpc
  · exact at0 _ _ fun l => q1_at x0 x1 x2 x3 x6 x7 l
  nomatch hpc
/-- The reference's third result. -/
theorem o10_eq : (out0_10 (F := Ideal) x0 x1 x2 x3 x4 x5 x6 x7 : FVec Ideal S2x128 .f32) = gk x0 x1 x2 x3 x6 x7 := by
  funext y
  unfold_out out0_10
  rw [ld0, ld1, ld2, ld3, ld4, ld5]
  refine View.canon_apply_of_pieces (Val := Elt Ideal) (e := .f32) (gk x0 x1 x2 x3 x6 x7) _ ?_ y (cover0_10 _ _ y)
  intro pc hpc
  rcases List.mem_cons.mp hpc with rfl | hpc
  · exact at1 _ _ fun l => k2_at l (dx2 x0 x1 x2 x3 x6 x7)
  rcases List.mem_cons.mp hpc with rfl | hpc
  · exact at0 _ _ fun l => k1_at l (dx1 x0 x1 x2 x3 x6 x7)
  nomatch hpc

end Arrays

variable (m : (ℓ : Loc nD τ sig) → Buf (Elt Ideal) ℓ) (c : Dev nD)

/-- The frequency of lane `l`. -/
def fq (l : Fin 128) : EReal := Ideal.pow (Ideal.ofBits .f32 0x49742400#32)
  (-(Ideal.div (Ideal.ofBits .f32 0x40000000#32 * FloatOps.sitofp (F := Ideal) .f32 (BitVec.ofNat 32 l.val)) (Ideal.ofBits .f32 0x43800000#32)))
theorem V10_at (l : Fin 128) : (V m c main_v10 (ix2 0 l) : EReal) = fq l := by
  unfold fq
  entry_read
  pointwise
theorem V0_at (r : Fin 2) (l : Fin 128) :
    (V m c main_v0 (ix2 r l) : EReal) = m ((c : Thread nD τ).loc main_arg4) (ix1 ⟨r.val * 128 + l.val, by omega⟩) := by
  entry_read
  pointwise
theorem V1_at (r : Fin 2) (l : Fin 128) :
    (V m c main_v1 (ix2 r l) : EReal) = m ((c : Thread nD τ).loc main_arg5) (ix1 ⟨r.val * 128 + l.val, by omega⟩) := by
  entry_read
  pointwise

end Cert.ReferenceIdeal.Ref
end
-- ==== Proof.RSpec.lean ====
/- The reference's three results, as the functions of `Spec`. -/
module

public import proofs.«01_k».proof.Proof.RefVal
public import proofs.«01_k».proof.Proof.Spec

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.SL.Sem

section Arrays
variable (x0 : Vec Ideal S1x2048x32x256 .fp8e5m2) (x1 : Vec Ideal S1x2048x32 .f32) (x2 : Vec Ideal S1x2048x24x256 .fp8e4m3) (x3 : Vec Ideal S1x2048x24 .f32)
  (x4 x5 : Vec Ideal S2x128 .f32) (x6 : Vec Ideal S1x2048 .i32) (x7 : Vec Ideal S1x128 .f32)
variable (a0 : Fin 2048 → Fin 32 → Fin 256 → EReal) (a1 : Fin 2048 → Fin 32 → EReal) (a2 : Fin 2048 → Fin 24 → Fin 256 → EReal)
  (a3 : Fin 2048 → Fin 24 → EReal) (a4 a5 : Fin 256 → EReal) (a6 : Fin 2048 → BitVec 32)

/-- The arrays hold the plain functions. -/
structure Holds : Prop where
  h0 : ∀ t h l, (x0 (ix4 0 t h l) : EReal) = a0 t h l
  h1 : ∀ t h, (x1 (ix3 0 t h) : EReal) = a1 t h
  h2 : ∀ t h l, (x2 (ix4 0 t h l) : EReal) = a2 t h l
  h3 : ∀ t h, (x3 (ix3 0 t h) : EReal) = a3 t h
  h4 : ∀ (r : Fin 2) (l : Fin 128), (x4 (ix2 r l) : EReal) = a4 ⟨r.val * 128 + l.val, by omega⟩
  h5 : ∀ (r : Fin 2) (l : Fin 128), (x5 (ix2 r l) : EReal) = a5 ⟨r.val * 128 + l.val, by omega⟩
  h6 : ∀ t, (x6 (ix2 0 t) : BitVec 32) = a6 t
  h7 : ∀ l, (x7 (ix2 0 l) : EReal) = fq l

variable (H : Holds x0 x1 x2 x3 x4 x5 x6 x7 a0 a1 a2 a3 a4 a5 a6)
variable (hd : ∀ t h, 0 ≤ a1 t h) (hdt : ∀ t h, a1 t h ≠ ⊤) (hq : ∀ t h, 0 ≤ a3 t h)
variable (t : Fin 2048) (h : Fin 24) (l : Fin 128)
include H

theorem an_eq : an x6 x7 t l = Tab.ang (a6 t) l.val := by
  unfold an
  rw [H.h6, H.h7]
  rfl
theorem cosB : (cosR x6 x7 (ix4 0 t 0 l) : EReal) = Spec.co a6 t l := by
  rw [cosR_at, an_eq (H := H)]
  rfl
theorem sinB : (sinR x6 x7 (ix4 0 t 0 l) : EReal) = Spec.si a6 t l := by
  rw [sinR_at, an_eq (H := H)]
  rfl
include hd hdt in
theorem dn1B : (dn1 x0 x1 x6 x7 (ix4 0 t h l) : EReal) = a1 t (up h) * Spec.w1 a0 a6 t h l := by
  rw [dn1_at, cosB (H := H), sinB (H := H), H.h0, H.h0, H.h1]
  exact Alg.back1 _ (hd _ _) (hdt _ _) _ _ _ _
include hd hdt in
theorem dn2B : (dn2 x0 x1 x6 x7 (ix4 0 t h l) : EReal) = a1 t (up h) * Spec.w2 a0 a6 t h l := by
  rw [dn2_at, cosB (H := H), sinB (H := H), H.h0, H.h0, H.h1]
  exact Alg.back2 _ (hd _ _) (hdt _ _) _ _ _ _
theorem rstdB : (k0_pay23 x3 x2 (ix4 0 t h 0) : EReal) = Spec.ir a2 a3 t h := by
  rw [rstd_at]
  simp only [H.h2, H.h3]
  rw [Alg.ms_eq (a3 t h) (fun i => a2 t h (lo i)) (fun i => a2 t h (hi i)), Alg.div256]
  rfl
theorem xh1B : (k0_pay24 x3 x2 (ix4 0 t h l) : EReal) = a2 t h (lo l) * a3 t h * Spec.ir a2 a3 t h := by
  rw [xh1_at, rstdB (H := H), H.h2, H.h3]
theorem xh2B : (k0_pay25 x3 x2 (ix4 0 t h l) : EReal) = a2 t h (hi l) * a3 t h * Spec.ir a2 a3 t h := by
  rw [xh2_at, rstdB (H := H), H.h2, H.h3]
theorem gnB (r : Fin 2) : gn (fun l => x4 (ix2 r l)) (fun l => x5 (ix2 r l)) h l = Spec.gain a4 a5 h l r := by
  unfold gn Spec.gain
  dsimp only
  rw [H.h4, H.h5]

include hd hdt hq in
theorem r8_lo : (out0_8 (F := Ideal) x0 x1 x2 x3 x4 x5 x6 x7 (ix4 0 t (up h) (lo l)) : EReal) = Spec.p1 a0 a1 a2 a3 a4 a5 a6 t h l := by
  rw [o8_lo]
  simp only [dn1B (H := H) (hd := hd) (hdt := hdt), dn2B (H := H) (hd := hd) (hdt := hdt), rstdB (H := H), xh1B (H := H), xh2B (H := H), gnB (H := H)]
  exact Alg.out_eq (a1 t (up h)) (a3 t h) (fun i => a2 t h (lo i)) (fun i => a2 t h (hi i)) (fun i => Spec.gain a4 a5 h i 0) (fun i => Spec.gain a4 a5 h i 1)
    (hd _ _) (hdt _ _) (hq _ _) (fun i => Spec.w1 a0 a6 t h i) (fun i => Spec.w2 a0 a6 t h i) (Spec.w1 a0 a6 t h l) (Spec.gain a4 a5 h l 0) (a2 t h (lo l)) (fun z => z.1 l)
include hd hdt hq in
theorem r8_hi : (out0_8 (F := Ideal) x0 x1 x2 x3 x4 x5 x6 x7 (ix4 0 t (up h) (hi l)) : EReal) = Spec.p2 a0 a1 a2 a3 a4 a5 a6 t h l := by
  rw [o8_hi]
  simp only [dn1B (H := H) (hd := hd) (hdt := hdt), dn2B (H := H) (hd := hd) (hdt := hdt), rstdB (H := H), xh1B (H := H), xh2B (H := H), gnB (H := H)]
  exact Alg.out_eq (a1 t (up h)) (a3 t h) (fun i => a2 t h (lo i)) (fun i => a2 t h (hi i)) (fun i => Spec.gain a4 a5 h i 0) (fun i => Spec.gain a4 a5 h i 1)
    (hd _ _) (hdt _ _) (hq _ _) (fun i => Spec.w1 a0 a6 t h i) (fun i => Spec.w2 a0 a6 t h i) (Spec.w2 a0 a6 t h l) (Spec.gain a4 a5 h l 1) (a2 t h (hi l)) (fun z => z.2 l)
theorem r8_v (h : Fin 8) (l : Fin 256) : (out0_8 (F := Ideal) x0 x1 x2 x3 x4 x5 x6 x7 (ix4 0 t ⟨24 + h.val, by omega⟩ l) : EReal)
    = a0 t ⟨24 + h.val, by omega⟩ l * a1 t ⟨24 + h.val, by omega⟩ := by
  rw [o8_v, H.h0, H.h1]

include hd hdt in
theorem dx1B : (dx1 x0 x1 x2 x3 x6 x7 (ix4 0 t h l) : EReal) = Spec.t1 a0 a1 a2 a3 a6 t h l := by
  rw [dx1_at, dn1B (H := H) (hd := hd) (hdt := hdt), xh1B (H := H)]
  exact Alg.prod_eq ..
include hd hdt in
theorem dx2B : (dx2 x0 x1 x2 x3 x6 x7 (ix4 0 t h l) : EReal) = Spec.t2 a0 a1 a2 a3 a6 t h l := by
  rw [dx2_at, dn2B (H := H) (hd := hd) (hdt := hdt), xh2B (H := H)]
  exact Alg.prod_eq ..

include hd hdt in
theorem r9_0 : (gq x0 x1 x2 x3 x6 x7 (ix2 0 l) : EReal) = ∑ T : Fin 2048, ∑ h : Fin 16, Spec.t1 a0 a1 a2 a3 a6 T ⟨h.val, by omega⟩ l := by
  show ∑ T : Fin 2048, ∑ h : Fin 16, (dx1 x0 x1 x2 x3 x6 x7 (ix4 0 T ⟨h.val, by omega⟩ l) : EReal) = _
  exact Finset.sum_congr rfl fun T _ => Finset.sum_congr rfl fun h _ => dx1B (H := H) (hd := hd) (hdt := hdt) (t := T) (h := _) (l := l)
include hd hdt in
theorem r9_1 : (gq x0 x1 x2 x3 x6 x7 (ix2 1 l) : EReal) = ∑ T : Fin 2048, ∑ h : Fin 16, Spec.t2 a0 a1 a2 a3 a6 T ⟨h.val, by omega⟩ l := by
  show ∑ T : Fin 2048, ∑ h : Fin 16, (dx2 x0 x1 x2 x3 x6 x7 (ix4 0 T ⟨h.val, by omega⟩ l) : EReal) = _
  exact Finset.sum_congr rfl fun T _ => Finset.sum_congr rfl fun h _ => dx2B (H := H) (hd := hd) (hdt := hdt) (t := T) (h := _) (l := l)
include hd hdt in
theorem r10_0 : (gk x0 x1 x2 x3 x6 x7 (ix2 0 l) : EReal) = ∑ T : Fin 2048, ∑ h : Fin 8, Spec.t1 a0 a1 a2 a3 a6 T ⟨16 + h.val, by omega⟩ l := by
  show ∑ T : Fin 2048, ∑ h : Fin 8, (dx1 x0 x1 x2 x3 x6 x7 (ix4 0 T ⟨16 + h.val, by omega⟩ l) : EReal) = _
  exact Finset.sum_congr rfl fun T _ => Finset.sum_congr rfl fun h _ => dx1B (H := H) (hd := hd) (hdt := hdt) (t := T) (h := _) (l := l)
include hd hdt in
theorem r10_1 : (gk x0 x1 x2 x3 x6 x7 (ix2 1 l) : EReal) = ∑ T : Fin 2048, ∑ h : Fin 8, Spec.t2 a0 a1 a2 a3 a6 T ⟨16 + h.val, by omega⟩ l := by
  show ∑ T : Fin 2048, ∑ h : Fin 8, (dx2 x0 x1 x2 x3 x6 x7 (ix4 0 T ⟨16 + h.val, by omega⟩ l) : EReal) = _
  exact Finset.sum_congr rfl fun T _ => Finset.sum_congr rfl fun h _ => dx2B (H := H) (hd := hd) (hdt := hdt) (t := T) (h := _) (l := l)

end Arrays

end Cert.ReferenceIdeal.Ref
end
-- ==== Proof.PreVal.lean ====
/- What the precondition says of the scales. -/
module

public import proofs.«01_k».proof.Pre_scales
public import Idealize.ShloMosaic.PureOps.Ideal
public import Idealize.ShloMosaic.Lib.Pointwise

@[expose] public section

noncomputable section

namespace Cert.Pre_scales

open Idealize.ShloMosaic

/-- The shapes the precondition's operations need. -/
theorem facts : Facts where
  bcast_S_S1x2048x32 := by decide
  bcast_S_S1x2048x24 := by decide

variable [Facts]
variable (x0 : FVec Ideal S1x2048x32x256 .fp8e5m2) (x1 : FVec Ideal S1x2048x32 .f32) (x2 : FVec Ideal S1x2048x24x256 .fp8e4m3) (x3 : FVec Ideal S1x2048x24 .f32)
  (x4 x5 : FVec Ideal S256 .f32) (x6 : IVec S1x2048 32)

theorem d_pos (e : (fn x0 x1 x2 x3 x4 x5 x6).1 = fun _ => 1#1) (t : Fin 2048) (h : Fin 32) :
    (0 : EReal) ≤ x1 (ix3 0 t h) ∧ (x1 (ix3 0 t h) : EReal) ≠ ⊤ := by
  have e := congrFun e (ix3 0 t h)
  unfold fn at e
  pointwise at e
  have hb : ∀ a b : Bool, IntOp.andi (BitVec.ofBool a) (BitVec.ofBool b) = 1#1 → a = true ∧ b = true := by decide
  obtain ⟨ha, hb⟩ := hb _ _ e
  exact ⟨of_decide_eq_true ha, ne_top_of_lt (of_decide_eq_true hb)⟩
theorem q_pos (e : (fn x0 x1 x2 x3 x4 x5 x6).2 = fun _ => 1#1) (t : Fin 2048) (h : Fin 24) :
    (0 : EReal) ≤ x3 (ix3 0 t h) := by
  have e := congrFun e (ix3 0 t h)
  unfold fn at e
  pointwise at e
  have hb : ∀ a : Bool, BitVec.ofBool a = 1#1 → a = true := by decide
  exact of_decide_eq_true (hb _ e)

end Cert.Pre_scales
end
-- ==== Proof.Final.lean ====
/- The kernel and the reference leave the same three results. -/
module

public import proofs.«01_k».proof.Defs
public import proofs.«01_k».proof.Proof.KSpec
public import proofs.«01_k».proof.Proof.RSpec
public import proofs.«01_k».proof.Proof.PreVal

@[expose] public section

set_option maxRecDepth 16384

noncomputable section

namespace Cert.Final

open Idealize.ShloMosaic Idealize.ShloMosaic.TcCoe Idealize.SL.Sem
open Cert.KernelIdeal.Tok (a0 a1 a2 a3 a4 a5 a6)

/-- An index of a `2 x 128` array is a row and a lane. -/
theorem rows {P : (⟨2, ![2, 128]⟩ : Shape).Idx → Prop} (h0 : ∀ l : Fin 128, P (ix2 0 l)) (h1 : ∀ l : Fin 128, P (ix2 1 l)) (y) : P y := by
  have e : y = ix2 (y 0 : Fin 2) (y 1 : Fin 128) := by
    funext a; apply Fin.ext
    match a with
    | ⟨0, _⟩ => rfl
    | ⟨1, _⟩ => rfl
  rw [e]
  generalize (y 0 : Fin 2) = r
  match r with
  | ⟨0, _⟩ => exact h0 _
  | ⟨1, _⟩ => exact h1 _

/-- An index of the first result is a token, a head and a lane. -/
theorem toks {P : (⟨4, ![1, 2048, 32, 256]⟩ : Shape).Idx → Prop}
    (hl : ∀ (T : Fin 2048) (h : Fin 24) (l : Fin 128), P (ix4 0 T (Spec.up h) (Spec.lo l)))
    (hh : ∀ (T : Fin 2048) (h : Fin 24) (l : Fin 128), P (ix4 0 T (Spec.up h) (Spec.hi l)))
    (hv : ∀ (T : Fin 2048) (h : Fin 8) (l : Fin 256), P (ix4 0 T ⟨24 + h.val, by omega⟩ l)) (y) : P y := by
  have e : y = ix4 0 (y 1 : Fin 2048) (y 2 : Fin 32) (y 3 : Fin 256) := by
    funext a; apply Fin.ext
    match a with
    | ⟨0, _⟩ => exact Nat.lt_one_iff.mp (y 0).isLt
    | ⟨1, _⟩ => rfl
    | ⟨2, _⟩ => rfl
    | ⟨3, _⟩ => rfl
  rw [e]
  generalize (y 1 : Fin 2048) = T
  generalize (y 2 : Fin 32) = h
  generalize (y 3 : Fin 256) = l
  revert l
  refine KernelIdeal.Tok.row_cases (fun h => ∀ l, P (ix4 0 T h l)) (fun h l => ?_) (fun h l => hv T h l) h
  exact KernelIdeal.Tok.lane_cases (fun l => P (ix4 0 T (Spec.up h) l)) (fun l => hl T h l) (fun l => hh T h l) l

/-- Every token is a token of a step. -/
theorem steps {P : Fin 2048 → Prop} (h : ∀ t tt, P (KernelIdeal.Tok.tk t tt)) (T : Fin 2048) : P T := by
  have := h ⟨T.val / 128, by rw [KernelIdeal.Tok.n16]; omega⟩ ⟨T.val % 128, by omega⟩
  rwa [show KernelIdeal.Tok.tk ⟨T.val / 128, by rw [KernelIdeal.Tok.n16]; omega⟩ ⟨T.val % 128, by omega⟩ = T from
    Fin.ext (Nat.div_add_mod T.val 128)] at this

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

section
variable
  (e0 : m' ((c.tc : Thread ReferenceIdeal.nD ReferenceIdeal.τ).loc ReferenceIdeal.main_arg0) = m ((c.tc : Thread KernelIdeal.nD KernelIdeal.τ).loc KernelIdeal.main_arg0))
  (e1 : m' ((c.tc : Thread ReferenceIdeal.nD ReferenceIdeal.τ).loc ReferenceIdeal.main_arg1) = m ((c.tc : Thread KernelIdeal.nD KernelIdeal.τ).loc KernelIdeal.main_arg1))
  (e2 : m' ((c.tc : Thread ReferenceIdeal.nD ReferenceIdeal.τ).loc ReferenceIdeal.main_arg2) = m ((c.tc : Thread KernelIdeal.nD KernelIdeal.τ).loc KernelIdeal.main_arg2))
  (e3 : m' ((c.tc : Thread ReferenceIdeal.nD ReferenceIdeal.τ).loc ReferenceIdeal.main_arg3) = m ((c.tc : Thread KernelIdeal.nD KernelIdeal.τ).loc KernelIdeal.main_arg3))
  (e4 : m' ((c.tc : Thread ReferenceIdeal.nD ReferenceIdeal.τ).loc ReferenceIdeal.main_arg4) = m ((c.tc : Thread KernelIdeal.nD KernelIdeal.τ).loc KernelIdeal.main_arg4))
  (e5 : m' ((c.tc : Thread ReferenceIdeal.nD ReferenceIdeal.τ).loc ReferenceIdeal.main_arg5) = m ((c.tc : Thread KernelIdeal.nD KernelIdeal.τ).loc KernelIdeal.main_arg5))
  (e6 : m' ((c.tc : Thread ReferenceIdeal.nD ReferenceIdeal.τ).loc ReferenceIdeal.main_arg6) = m ((c.tc : Thread KernelIdeal.nD KernelIdeal.τ).loc KernelIdeal.main_arg6))
include e0 e1 e2 e3 e4 e5 e6

/-- The reference's buffers hold what the kernel's arguments hold. -/
theorem holds : ReferenceIdeal.Ref.Holds
    (m' ((c.tc : Thread ReferenceIdeal.nD ReferenceIdeal.τ).loc ReferenceIdeal.main_arg0)) (m' ((c.tc : Thread ReferenceIdeal.nD ReferenceIdeal.τ).loc ReferenceIdeal.main_arg1))
    (m' ((c.tc : Thread ReferenceIdeal.nD ReferenceIdeal.τ).loc ReferenceIdeal.main_arg2)) (m' ((c.tc : Thread ReferenceIdeal.nD ReferenceIdeal.τ).loc ReferenceIdeal.main_arg3))
    (ReferenceIdeal.Gen.V m' c ReferenceIdeal.main_v0) (ReferenceIdeal.Gen.V m' c ReferenceIdeal.main_v1)
    (m' ((c.tc : Thread ReferenceIdeal.nD ReferenceIdeal.τ).loc ReferenceIdeal.main_arg6)) (ReferenceIdeal.Gen.V m' c ReferenceIdeal.main_v10)
    (a0 m c) (a1 m c) (a2 m c) (a3 m c) (a4 m c) (a5 m c) (a6 m c) where
  h0 t h l := congrFun e0 (ix4 0 t h l)
  h1 t h := congrFun e1 (ix3 0 t h)
  h2 t h l := congrFun e2 (ix4 0 t h l)
  h3 t h := congrFun e3 (ix3 0 t h)
  h4 r l := (ReferenceIdeal.Ref.V0_at m' c r l).trans (congrFun e4 (ix1 ⟨r.val * 128 + l.val, by omega⟩))
  h5 r l := (ReferenceIdeal.Ref.V1_at m' c r l).trans (congrFun e5 (ix1 ⟨r.val * 128 + l.val, by omega⟩))
  h6 t := congrFun e6 (ix2 0 t)
  h7 l := ReferenceIdeal.Ref.V10_at m' c l

variable (hd : ∀ t h, 0 ≤ a1 m c t h) (hdt : ∀ t h, a1 m c t h ≠ ⊤) (hq : ∀ t h, 0 ≤ a3 m c t h)

include hd hdt hq in
theorem res8 : (ReferenceIdeal.Gen.dats m' 0 c).arrAt 8 ReferenceIdeal.cfg0.N = KernelIdeal.Value.G8 m c := by
  have H := holds m m' c e0 e1 e2 e3 e4 e5 e6
  refine (ReferenceIdeal.Ref.arr8 m' c).trans (funext fun y => ?_)
  revert y
  refine toks (fun T h l => ?_) (fun T h l => ?_) (fun T h l => ?_)
  · exact (ReferenceIdeal.Ref.r8_lo (H := H) (hd := hd) (hdt := hdt) (hq := hq) (t := T) (h := h) (l := l)).trans
      (steps (P := fun T => Spec.p1 (a0 m c) (a1 m c) (a2 m c) (a3 m c) (a4 m c) (a5 m c) (a6 m c) T h l = KernelIdeal.Value.G8 m c (ix4 0 T (Spec.up h) (Spec.lo l)))
        (fun t tt => (KernelIdeal.Tok.k8_lo m c t tt h l).symm) T)
  · exact (ReferenceIdeal.Ref.r8_hi (H := H) (hd := hd) (hdt := hdt) (hq := hq) (t := T) (h := h) (l := l)).trans
      (steps (P := fun T => Spec.p2 (a0 m c) (a1 m c) (a2 m c) (a3 m c) (a4 m c) (a5 m c) (a6 m c) T h l = KernelIdeal.Value.G8 m c (ix4 0 T (Spec.up h) (Spec.hi l)))
        (fun t tt => (KernelIdeal.Tok.k8_hi m c t tt h l).symm) T)
  · exact (ReferenceIdeal.Ref.r8_v (H := H) (t := T) (h := h) (l := l)).trans
      (steps (P := fun T => a0 m c T ⟨24 + h.val, by omega⟩ l * a1 m c T ⟨24 + h.val, by omega⟩ = KernelIdeal.Value.G8 m c (ix4 0 T ⟨24 + h.val, by omega⟩ l))
        (fun t tt => (KernelIdeal.Tok.k8_v m c t tt h l).symm) T)

include hd hdt in
theorem res9 : (ReferenceIdeal.Gen.dats m' 0 c).arrAt 9 ReferenceIdeal.cfg0.N = KernelIdeal.Value.G9 m c := by
  have H := holds m m' c e0 e1 e2 e3 e4 e5 e6
  refine (ReferenceIdeal.Ref.arr9 m' c).trans ((ReferenceIdeal.Ref.o9_eq _ _ _ _ _ _ _ _).trans (Eq.trans ?_ (KernelIdeal.Tok.g9_eq m c).symm))
  refine funext (rows (fun l => ?_) (fun l => ?_))
  · exact (ReferenceIdeal.Ref.r9_0 (H := H) (hd := hd) (hdt := hdt) (l := l)).trans (KernelIdeal.Tok.k9_0 m c l).symm
  · exact (ReferenceIdeal.Ref.r9_1 (H := H) (hd := hd) (hdt := hdt) (l := l)).trans (KernelIdeal.Tok.k9_1 m c l).symm

include hd hdt in
theorem res10 : (ReferenceIdeal.Gen.dats m' 0 c).arrAt 10 ReferenceIdeal.cfg0.N = KernelIdeal.Value.G10 m c := by
  have H := holds m m' c e0 e1 e2 e3 e4 e5 e6
  refine (ReferenceIdeal.Ref.arr10 m' c).trans ((ReferenceIdeal.Ref.o10_eq _ _ _ _ _ _ _ _).trans (Eq.trans ?_ (KernelIdeal.Tok.g10_eq m c).symm))
  refine funext (rows (fun l => ?_) (fun l => ?_))
  · exact (ReferenceIdeal.Ref.r10_0 (H := H) (hd := hd) (hdt := hdt) (l := l)).trans (KernelIdeal.Tok.k10_0 m c l).symm
  · exact (ReferenceIdeal.Ref.r10_1 (H := H) (hd := hd) (hdt := hdt) (l := l)).trans (KernelIdeal.Tok.k10_1 m c l).symm
end

/-- The value claim. -/
theorem algebraic : @Cert.algebraic_KernelIdeal_ReferenceIdeal_pre_scales KernelIdeal.Gen.facts ReferenceIdeal.Gen.facts Pre_scales.facts := by
  letI := Pre_scales.facts
  intro m g m' g' hp ha
  refine ⟨fun c => KernelIdeal.Value.G8 m c, fun c => KernelIdeal.Value.G9 m c, fun c => KernelIdeal.Value.G10 m c, KernelIdeal.Value.run m g, ?_⟩
  refine (θ_run _ _ _).mono (fun r h c => ?_) (ReferenceIdeal.Value.run_blocks m' g')
  obtain ⟨e0, e1, e2, e3, e4, e5, e6⟩ := ha c
  have hdd := fun t h => Pre_scales.d_pos _ _ _ _ _ _ _ (hp c).1 t h
  have hd : ∀ t h, 0 ≤ a1 m c t h := fun t h => (hdd t h).1
  have hdt : ∀ t h, a1 m c t h ≠ ⊤ := fun t h => (hdd t h).2
  have hq : ∀ t h, 0 ≤ a3 m c t h := fun t h => Pre_scales.q_pos _ _ _ _ _ _ _ (hp c).2 t h
  obtain ⟨r8, r9, r10, rest⟩ := h c
  exact ⟨r8.trans (res8 m m' c e0 e1 e2 e3 e4 e5 e6 hd hdt hq), r9.trans (res9 m m' c e0 e1 e2 e3 e4 e5 e6 hd hdt),
    r10.trans (res10 m m' c e0 e1 e2 e3 e4 e5 e6 hd hdt), rest⟩

end Cert.Final
end
-- ==== Proof.lean ====
module

public import proofs.«01_k».proof.Defs
public import proofs.«01_k».proof.Proof.KernelFrame.Whole
public import proofs.«01_k».proof.Proof.Gen.Kernel
public import proofs.«01_k».proof.Proof.Gen.KernelIdeal
public import proofs.«01_k».proof.Proof.KernelIdealFrame.Whole
public import proofs.«01_k».proof.Proof.Gen.ReferenceIdeal
public import proofs.«01_k».proof.Proof.Gen.ReferenceIdeal.Frame
public import proofs.«01_k».proof.Proof.Final

@[expose] public section

noncomputable section

namespace Cert.Proof

open Idealize.ShloMosaic Idealize.SL.Sem

/-- Kernel, its idealization and the reference run to the end and leave their arguments and semaphores as they were, and
    over the reals the kernel leaves the reference's three results. -/
theorem claim : Cert.Claim :=
  ⟨Cert.Kernel.Gen.facts, Cert.KernelIdeal.Gen.facts, Cert.ReferenceIdeal.Gen.facts, Cert.Pre_scales.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    Cert.Final.algebraic⟩

end Cert.Proof

end
